-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S26x40x98304 : Shape := ⟨3, ![26, 40, 98304]⟩
abbrev S26x98304 : Shape := ⟨2, ![26, 98304]⟩
abbrev S40x98304 : Shape := ⟨2, ![40, 98304]⟩
abbrev S98304 : Shape := ⟨1, ![98304]⟩
abbrev S98304x256 : Shape := ⟨2, ![98304, 256]⟩
abbrev S1x98304 : Shape := ⟨2, ![1, 98304]⟩
abbrev S27x160x256 : Shape := ⟨3, ![27, 160, 256]⟩
abbrev S27x256 : Shape := ⟨2, ![27, 256]⟩
abbrev S26x40x2048 : Shape := ⟨3, ![26, 40, 2048]⟩
abbrev S26x2048 : Shape := ⟨2, ![26, 2048]⟩
abbrev S40x2048 : Shape := ⟨2, ![40, 2048]⟩
abbrev S1x2048 : Shape := ⟨2, ![1, 2048]⟩
abbrev S2048x256 : Shape := ⟨2, ![2048, 256]⟩
abbrev S27x2048 : Shape := ⟨2, ![27, 2048]⟩
abbrev S1x40x2048 : Shape := ⟨3, ![1, 40, 2048]⟩
abbrev S160x2048 : Shape := ⟨2, ![160, 2048]⟩
abbrev S1x160x256 : Shape := ⟨3, ![1, 160, 256]⟩
abbrev S160x256 : Shape := ⟨2, ![160, 256]⟩
abbrev S256 : Shape := ⟨1, ![256]⟩
abbrev S1x256 : Shape := ⟨2, ![1, 256]⟩

abbrev nBuf : Space → Nat
  | .hbm => 11
  | .vmem => 16
  | .smem => 0
  | _ => 0

abbrev bufTy : (tb : Table) → Fin (tcTables nBuf tb) → BufTy
  | .hbm, ⟨0, _⟩ => ⟨S26x40x98304, .i32⟩
  | .hbm, ⟨1, _⟩ => ⟨S26x98304, .i32⟩
  | .hbm, ⟨2, _⟩ => ⟨S40x98304, .i32⟩
  | .hbm, ⟨3, _⟩ => ⟨S98304, .f32⟩
  | .hbm, ⟨4, _⟩ => ⟨S98304x256, .fp8e5m2⟩
  | .hbm, ⟨5, _⟩ => ⟨S98304, .f32⟩
  | .hbm, ⟨6, _⟩ => ⟨S1x98304, .f32⟩
  | .hbm, ⟨7, _⟩ => ⟨S1x98304, .f32⟩
  | .hbm, ⟨8, _⟩ => ⟨S27x160x256, .f32⟩
  | .hbm, ⟨9, _⟩ => ⟨S27x160x256, .fp8e4m3⟩
  | .hbm, ⟨10, _⟩ => ⟨S27x256, .f32⟩
  | .local _ .vmem, ⟨0, _⟩ => ⟨S26x40x2048, .i32⟩
  | .local _ .vmem, ⟨1, _⟩ => ⟨S26x40x2048, .i32⟩
  | .local _ .vmem, ⟨2, _⟩ => ⟨S26x2048, .i32⟩
  | .local _ .vmem, ⟨3, _⟩ => ⟨S26x2048, .i32⟩
  | .local _ .vmem, ⟨4, _⟩ => ⟨S40x2048, .i32⟩
  | .local _ .vmem, ⟨5, _⟩ => ⟨S40x2048, .i32⟩
  | .local _ .vmem, ⟨6, _⟩ => ⟨S1x2048, .f32⟩
  | .local _ .vmem, ⟨7, _⟩ => ⟨S1x2048, .f32⟩
  | .local _ .vmem, ⟨8, _⟩ => ⟨S2048x256, .fp8e5m2⟩
  | .local _ .vmem, ⟨9, _⟩ => ⟨S2048x256, .fp8e5m2⟩
  | .local _ .vmem, ⟨10, _⟩ => ⟨S1x2048, .f32⟩
  | .local _ .vmem, ⟨11, _⟩ => ⟨S1x2048, .f32⟩
  | .local _ .vmem, ⟨12, _⟩ => ⟨S27x160x256, .f32⟩
  | .local _ .vmem, ⟨13, _⟩ => ⟨S27x160x256, .fp8e4m3⟩
  | .local _ .vmem, ⟨14, _⟩ => ⟨S27x256, .f32⟩
  | .local _ .vmem, ⟨15, _⟩ => ⟨S27x2048, .f32⟩
  | _, _ => ⟨S26x40x98304, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨1, ![48], ![false]⟩

@[reducible] def k0_t1_loop : Scf.Loop 32 :=
  let c0_i32_11 : BitVec 32 := 0#32
  let c26_i32 : BitVec 32 := 26#32
  let v20 : BitVec 32 := Scalar.addi c0_i32_11 c26_i32
  let c1_i32 : BitVec 32 := 1#32
  ⟨c0_i32_11, v20, c1_i32⟩
def k0_off1 (k0_t1 : Fin k0_t1_loop.trips) : Fin 3 → Nat :=
  let c0_i32_24 : BitVec 32 := 0#32
  let c0_i32_11 : BitVec 32 := 0#32
  let c1_i32 : BitVec 32 := 1#32
  let arg11 : BitVec 32 := Scf.iv c0_i32_11 c1_i32 k0_t1
  let c1_i32_23 : BitVec 32 := 1#32
  let v38 : BitVec 32 := Scalar.muli arg11 c1_i32_23
  let v39 : BitVec 32 := Scalar.addi c0_i32_24 v38
  let v43 : Index := Scalar.indexCast v39
  let c0_26 : Index := 0#32
  let c0_27 : Index := 0#32
  ![v43.toNat, 0, 0]
def k0_off2 (k0_t1 : Fin k0_t1_loop.trips) : Fin 2 → Nat :=
  let c0_i32_24 : BitVec 32 := 0#32
  let c0_i32_11 : BitVec 32 := 0#32
  let c1_i32 : BitVec 32 := 1#32
  let arg11 : BitVec 32 := Scf.iv c0_i32_11 c1_i32 k0_t1
  let c1_i32_23 : BitVec 32 := 1#32
  let v38 : BitVec 32 := Scalar.muli arg11 c1_i32_23
  let v39 : BitVec 32 := Scalar.addi c0_i32_24 v38
  let v46 : Index := Scalar.indexCast v39
  let c0_28 : Index := 0#32
  ![v46.toNat, 0]
def k0_off3 (k0_t1 : Fin k0_t1_loop.trips) : Fin 3 → Nat :=
  let c0_i32_24 : BitVec 32 := 0#32
  let c0_i32_11 : BitVec 32 := 0#32
  let c1_i32 : BitVec 32 := 1#32
  let arg11 : BitVec 32 := Scf.iv c0_i32_11 c1_i32 k0_t1
  let c1_i32_23 : BitVec 32 := 1#32
  let v38 : BitVec 32 := Scalar.muli arg11 c1_i32_23
  let v39 : BitVec 32 := Scalar.addi c0_i32_24 v38
  let c13_i32 : BitVec 32 := 13#32
  let v40 : BitVec 1 := Scalar.cmpi .slt v39 c13_i32
  let c1_i32_25 : BitVec 32 := 1#32
  let v41 : BitVec 32 := Scalar.addi v39 c1_i32_25
  let v42 : BitVec 32 := Scalar.select v40 v39 v41
  let v50 : Index := Scalar.indexCast v42
  let c0_29 : Index := 0#32
  let c0_30 : Index := 0#32
  ![v50.toNat, 0, 0]
def k0_cond2 (i : grid0.Coords) : BitVec 1 :=
  let arg0 : BitVec 32 := BitVec.ofNat 32 (i 0).val
  let c47_i32 : BitVec 32 := 47#32
  let v35 : BitVec 1 := Scalar.cmpi .eq arg0 c47_i32
  let v36 : BitVec 32 := Scalar.extui v35
  let c0_i32_22 : BitVec 32 := 0#32
  let v37 : BitVec 1 := Scalar.cmpi .ne v36 c0_i32_22
  v37

@[reducible] def k0_t2_loop : Scf.Loop 32 :=
  let c0_i32_23 : BitVec 32 := 0#32
  let c27_i32 : BitVec 32 := 27#32
  let v38 : BitVec 32 := Scalar.addi c0_i32_23 c27_i32
  let c1_i32_24 : BitVec 32 := 1#32
  ⟨c0_i32_23, v38, c1_i32_24⟩
def k0_off4 (k0_t2 : Fin k0_t2_loop.trips) : Fin 3 → Nat :=
  let c0_i32_27 : BitVec 32 := 0#32
  let c0_i32_23 : BitVec 32 := 0#32
  let c1_i32_24 : BitVec 32 := 1#32
  let arg11 : BitVec 32 := Scf.iv c0_i32_23 c1_i32_24 k0_t2
  let c1_i32_26 : BitVec 32 := 1#32
  let v39 : BitVec 32 := Scalar.muli arg11 c1_i32_26
  let v40 : BitVec 32 := Scalar.addi c0_i32_27 v39
  let v41 : Index := Scalar.indexCast v40
  let c0_28 : Index := 0#32
  let c0_29 : Index := 0#32
  ![v41.toNat, 0, 0]
def k0_off5 (k0_t2 : Fin k0_t2_loop.trips) : Fin 2 → Nat :=
  let c0_i32_27 : BitVec 32 := 0#32
  let c0_i32_23 : BitVec 32 := 0#32
  let c1_i32_24 : BitVec 32 := 1#32
  let arg11 : BitVec 32 := Scf.iv c0_i32_23 c1_i32_24 k0_t2
  let c1_i32_26 : BitVec 32 := 1#32
  let v39 : BitVec 32 := Scalar.muli arg11 c1_i32_26
  let v40 : BitVec 32 := Scalar.addi c0_i32_27 v39
  let v149 : Index := Scalar.indexCast v40
  let c0_58 : Index := 0#32
  ![v149.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S26x40x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S26x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S40x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S27x160x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S27x160x256 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S27x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S26x40x98304 : Shape := ⟨3, ![26, 40, 98304]⟩
abbrev S26x98304 : Shape := ⟨2, ![26, 98304]⟩
abbrev S40x98304 : Shape := ⟨2, ![40, 98304]⟩
abbrev S98304 : Shape := ⟨1, ![98304]⟩
abbrev S98304x256 : Shape := ⟨2, ![98304, 256]⟩
abbrev S1x98304 : Shape := ⟨2, ![1, 98304]⟩
abbrev S27x160x256 : Shape := ⟨3, ![27, 160, 256]⟩
abbrev S27x256 : Shape := ⟨2, ![27, 256]⟩
abbrev S13x40x98304 : Shape := ⟨3, ![13, 40, 98304]⟩
abbrev S1x40x98304 : Shape := ⟨3, ![1, 40, 98304]⟩
abbrev S27x40x98304 : Shape := ⟨3, ![27, 40, 98304]⟩
abbrev S13x98304 : Shape := ⟨2, ![13, 98304]⟩
abbrev S27x98304 : Shape := ⟨2, ![27, 98304]⟩
abbrev S1080x98304 : Shape := ⟨2, ![1080, 98304]⟩
abbrev S4320x98304 : Shape := ⟨2, ![4320, 98304]⟩
abbrev S27x160x98304 : Shape := ⟨3, ![27, 160, 98304]⟩
abbrev S27x1x98304 : Shape := ⟨3, ![27, 1, 98304]⟩
abbrev S4320x256 : Shape := ⟨2, ![4320, 256]⟩
abbrev S27x1x256 : Shape := ⟨3, ![27, 1, 256]⟩

abbrev nBuf : Space → Nat
  | .hbm => 11
  | .vmem => 9
  | .smem => 0
  | _ => 0

abbrev bufTy : (tb : Table) → Fin (tcTables nBuf tb) → BufTy
  | .hbm, ⟨0, _⟩ => ⟨S26x40x98304, .i32⟩
  | .hbm, ⟨1, _⟩ => ⟨S26x98304, .i32⟩
  | .hbm, ⟨2, _⟩ => ⟨S40x98304, .i32⟩
  | .hbm, ⟨3, _⟩ => ⟨S98304, .f32⟩
  | .hbm, ⟨4, _⟩ => ⟨S98304x256, .fp8e5m2⟩
  | .hbm, ⟨5, _⟩ => ⟨S98304, .f32⟩
  | .hbm, ⟨6, _⟩ => ⟨S1x98304, .f32⟩
  | .hbm, ⟨7, _⟩ => ⟨S1x98304, .f32⟩
  | .hbm, ⟨8, _⟩ => ⟨S27x160x256, .f32⟩
  | .hbm, ⟨9, _⟩ => ⟨S27x160x256, .fp8e4m3⟩
  | .hbm, ⟨10, _⟩ => ⟨S27x256, .f32⟩
  | .local _ .vmem, ⟨0, _⟩ => ⟨S26x40x98304, .i32⟩
  | .local _ .vmem, ⟨1, _⟩ => ⟨S26x98304, .i32⟩
  | .local _ .vmem, ⟨2, _⟩ => ⟨S40x98304, .i32⟩
  | .local _ .vmem, ⟨3, _⟩ => ⟨S1x98304, .f32⟩
  | .local _ .vmem, ⟨4, _⟩ => ⟨S98304x256, .fp8e5m2⟩
  | .local _ .vmem, ⟨5, _⟩ => ⟨S1x98304, .f32⟩
  | .local _ .vmem, ⟨6, _⟩ => ⟨S27x160x256, .f32⟩
  | .local _ .vmem, ⟨7, _⟩ => ⟨S27x160x256, .fp8e4m3⟩
  | .local _ .vmem, ⟨8, _⟩ => ⟨S27x256, .f32⟩
  | _, _ => ⟨S26x40x98304, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S26x40x98304 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S26x98304 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40x98304 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x98304 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S98304x256 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x98304 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S27x160x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S27x160x256 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S27x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Bytes.lean ====
module

public import Idealize.ShloMosaic.Lib.Pointwise
public import Idealize.ShloMosaic.Lib.BitcastFour

@[expose] public section
noncomputable section

namespace Cert.Bytes
open Idealize.ShloMosaic

/-- The `b`-th byte of a word, read as an e4m3 code. -/
def code (w : BitVec 32) (b : ℕ) : EReal := Ideal.ofBits .fp8e4m3 (w.extractLsb' (8 * b) 8)

/-- Words read as bytes: byte row `c` of a column is byte `c % 4` of word row `c / 4`. -/
theorem bitcast_32_8 {R r n : ℕ} (x : (⟨2, ![r, n]⟩ : Shape).Idx → BitVec 32)
    (h : (⟨2, ![r, n]⟩ : Shape).Bitcasts 32 ⟨2, ![R, n]⟩ 8) (c : Fin R) (l : Fin n) (w : Fin r) (hw : w.val = c.val / 4) :
    bitcast ⟨2, ![R, n]⟩ 8 x h (ix2 c l) = (x (ix2 w l)).extractLsb' (8 * (c.val % 4)) 8 := by
  apply BitVec.eq_of_getLsbD_eq
  intro q hq
  have e : (⟨2, ![R, n]⟩ : Shape).row (ix2 c l) = c.val := rfl
  rw [bitcast_getLsbD x h _ q hq (by decide)]
  rw [BitVec.getLsbD_extractLsb']
  simp only [hq, decide_true, Bool.true_and]
  rw [show ((⟨2, ![R, n]⟩ : Shape).row (ix2 c l) * 8 + q) % 32 = 8 * (c.val % 4) + q by rw [e]; omega]
  congr 2
  funext a
  match a with
  | ⟨0, _⟩ => exact Fin.ext ((h.srcIdx_row _ _ _ ⟨0, Nat.zero_lt_two⟩ rfl).trans (by
      show (c.val * 8 + q) / 32 = w.val
      omega))
  | ⟨1, _⟩ => exact Fin.ext (h.srcIdx_other _ _ _ ⟨1, Nat.one_lt_two⟩ (by show ¬ 1 + 2 = 2; omega))

/-- The codes of a column of words. -/
theorem codes_apply {R r n : ℕ} (x : (⟨2, ![r, n]⟩ : Shape).Idx → BitVec 32)
    (h : (⟨2, ![r, n]⟩ : Shape).Bitcasts 32 ⟨2, ![R, n]⟩ 8) (c : Fin R) (l : Fin n) (w : Fin r) (hw : w.val = c.val / 4) :
    bitcastToFloat (F := Ideal) .fp8e4m3 (bitcast ⟨2, ![R, n]⟩ 8 x h) (ix2 c l) = code (x (ix2 w l)) (c.val % 4) := by
  unfold bitcastToFloat
  rw [bitcast_32_8 x h c l w hw]
  rfl

end Cert.Bytes
end
-- ==== Proof.Dot.lean ====
module

public import proofs.«01_k».proof.Proof.Gen.KernelIdeal.Skeleton
public import proofs.«01_k».proof.Proof.Bytes

@[expose] public section
noncomputable section

namespace Cert.KernelIdeal.Val
open Cert.KernelIdeal Cert.KernelIdeal.Gen Cert.Bytes Idealize.ShloMosaic

/-- A row of the byte table lies in word row `c / 4`. -/
abbrev wrow (c : Fin 160) : Fin 40 := ⟨c.val / 4, by omega⟩

/-- One offset's product over a block of pairs, at input channel `c` and output channel `d`. -/
def dotB (words : Fin 40 → Fin 2048 → BitVec 32) (s : Fin 2048 → EReal) (dy : Fin 2048 → Fin 256 → EReal) (c : Fin 160) (d : Fin 256) : EReal :=
  ∑ p : Fin 2048, code (words (wrow c) p) (c.val % 4) * s p * dy p d

theorem pay18_apply (v18 : Vec Ideal S2048x256 .fp8e5m2) (v44 : Vec Ideal S1x40x2048 .i32) (v47 : Vec Ideal S1x2048 .f32)
    (v51 : Vec Ideal S1x160x256 .f32) (c : Fin 160) (d : Fin 256) :
    k0_pay18 v18 v44 v47 v51 (ix3 0 c d)
      = v51 (ix3 0 c d) + dotB (fun w p => v44 (ix3 0 w p)) (fun p => v47 (ix2 0 p)) (fun p d => v18 (ix2 p d)) c d := by
  pointwise [k0_pay18, k0_pay17, dotB]
  refine congrArg (_ + ·) (Finset.sum_congr rfl fun p _ => ?_)
  rw [bitcast_32_8 _ _ c p (wrow c) rfl]
  pointwise [code]

theorem pay1_apply (v18 : Vec Ideal S2048x256 .fp8e5m2) (v25 : Vec Ideal S1x160x256 .f32) (v21 : Vec Ideal S40x2048 .i32)
    (v22 : Vec Ideal S1x2048 .f32) (c : Fin 160) (d : Fin 256) :
    k0_pay1 (k0_pay17 v18) (k0_pay19 v25) (k0_pay20 v21 v22) (ix3 0 c d)
      = v25 (ix3 0 c d) + dotB (fun w p => v21 (ix2 w p)) (fun p => v22 (ix2 0 p)) (fun p d => v18 (ix2 p d)) c d := by
  pointwise [k0_pay1, k0_pay17, k0_pay19, k0_pay20, dotB]
  refine congrArg (_ + ·) (Finset.sum_congr rfl fun p _ => ?_)
  rw [bitcast_32_8 _ _ c p (wrow c) rfl]
  rfl

theorem pay13_apply (j : S27x160x256.Idx) : (k0_pay13 (F := Ideal)) j = 0 := by
  pointwise [k0_pay13]

theorem pay15_apply (v3 : Vec Ideal S1x2048 .f32) (v5 : Vec Ideal S26x2048 .i32) (j : Fin 26) (p : Fin 2048) :
    k0_pay15 v3 v5 (ix2 j p) = Ideal.ofBits .f32 (v5 (ix2 j p)) * v3 (ix2 0 p) := by
  pointwise [k0_pay15, k0_pay14]

theorem pay16_apply (v3 : Vec Ideal S1x2048 .f32) (v12 : Vec Ideal S1x2048 .f32) (p : Fin 2048) :
    k0_pay16 v3 v12 (ix2 0 p) = v12 (ix2 0 p) * v3 (ix2 0 p) := by
  pointwise [k0_pay16, k0_pay14]

end Cert.KernelIdeal.Val
end
-- ==== Proof.Rows.lean ====
module

public import Idealize.ShloMosaic.Lib.Pointwise
public import Idealize.ShloMosaic.Lib.VecWindow
public import Idealize.ShloMosaic.Lib.WritesUnit

@[expose] public section

namespace Cert.Rows
open Idealize.ShloMosaic

variable {sig : RefSig} {κ : Kind} {sp : Space} {e : EltTy} {Val : EltTy → Type} {A B C : ℕ}

/-- A load of one slab of a rank-3 buffer, at an index. -/
theorem readAt3 (v : View sig κ sp ⟨3, ![A, B, C]⟩ e) (f : v.ty.Contents Val) {off : Fin 3 → ℕ}
    (inb : ∀ a : Fin 3, off a + (![1, B, C] : Fin 3 → ℕ) a ≤ (![A, B, C] : Fin 3 → ℕ) a) (j : Fin A) (h : off = ![j.val, 0, 0])
    (b : Fin B) (c : Fin C) :
    v.readAt Val (Rect.unit (s := ⟨3, ![A, B, C]⟩) off ![1, B, C] inb).toLoadRect f (ix3 0 b c : (⟨3, ![1, B, C]⟩ : Shape).Idx)
      = v.read Val f (ix3 j b c) := by
  subst h
  refine congrArg (v.read Val f) (funext fun a => Fin.ext ?_)
  match a with
  | ⟨0, _⟩ => exact (by simp : j.val + 1 * 0 = j.val)
  | ⟨1, _⟩ => exact (by simp : 0 + 1 * b.val = b.val)
  | ⟨2, _⟩ => exact (by simp : 0 + 1 * c.val = c.val)

/-- A load of one row of a rank-2 buffer, at an index. -/
theorem readAt2 (v : View sig κ sp ⟨2, ![A, B]⟩ e) (f : v.ty.Contents Val) {off : Fin 2 → ℕ}
    (inb : ∀ a : Fin 2, off a + (![1, B] : Fin 2 → ℕ) a ≤ (![A, B] : Fin 2 → ℕ) a) (j : Fin A) (h : off = ![j.val, 0]) (b : Fin B) :
    v.readAt Val (Rect.unit (s := ⟨2, ![A, B]⟩) off ![1, B] inb).toLoadRect f (ix2 0 b : (⟨2, ![1, B]⟩ : Shape).Idx)
      = v.read Val f (ix2 j b) := by
  subst h
  refine congrArg (v.read Val f) (funext fun a => Fin.ext ?_)
  match a with
  | ⟨0, _⟩ => exact (by simp : j.val + 1 * 0 = j.val)
  | ⟨1, _⟩ => exact (by simp : 0 + 1 * b.val = b.val)

/-- The slab last stored reads its payload. -/
theorem write3_same (v : View sig κ sp ⟨3, ![A, B, C]⟩ e) (f : v.ty.Contents Val) {off : Fin 3 → ℕ}
    (inb : ∀ a : Fin 3, off a + (![1, B, C] : Fin 3 → ℕ) a ≤ (![A, B, C] : Fin 3 → ℕ) a) (j : Fin A) (h : off = ![j.val, 0, 0])
    (w : (⟨3, ![1, B, C]⟩ : Shape).Idx → Val e) (L : List (View.Piece Val ⟨3, ![A, B, C]⟩ e)) (b : Fin B) (c : Fin C) :
    v.read Val (v.writes Val f (⟨Rect.unit (s := ⟨3, ![A, B, C]⟩) off ![1, B, C] inb, w⟩ :: L)) (ix3 j b c) = w (ix3 0 b c) :=
  View.read_writes_cons_unit_of_mem v f inb w L (ix3 j b c) (ix3 0 b c : (⟨3, ![1, B, C]⟩ : Shape).Idx) h fun a => by
    match a with
    | ⟨0, _⟩ => exact (by simp : j.val = j.val + 0)
    | ⟨1, _⟩ => exact (by simp : b.val = 0 + b.val)
    | ⟨2, _⟩ => exact (by simp : c.val = 0 + c.val)

/-- Any other slab reads what the earlier stores left. -/
theorem write3_other (v : View sig κ sp ⟨3, ![A, B, C]⟩ e) (f : v.ty.Contents Val) {off : Fin 3 → ℕ}
    (inb : ∀ a : Fin 3, off a + (![1, B, C] : Fin 3 → ℕ) a ≤ (![A, B, C] : Fin 3 → ℕ) a) (j : ℕ) (h : off = ![j, 0, 0])
    (w : (⟨3, ![1, B, C]⟩ : Shape).Idx → Val e) (L : List (View.Piece Val ⟨3, ![A, B, C]⟩ e)) (r : Fin A) (hr : r.val ≠ j) (b : Fin B) (c : Fin C) :
    v.read Val (v.writes Val f (⟨Rect.unit (s := ⟨3, ![A, B, C]⟩) off ![1, B, C] inb, w⟩ :: L)) (ix3 r b c)
      = v.read Val (v.writes Val f L) (ix3 r b c) :=
  View.read_writes_cons_unit_of_not_mem v f inb w L (ix3 r b c) h (0 : Fin 3) (by
    show r.val < j ∨ j + 1 ≤ r.val
    omega)

/-- The row last stored reads its payload. -/
theorem write2_same (v : View sig κ sp ⟨2, ![A, B]⟩ e) (f : v.ty.Contents Val) {off : Fin 2 → ℕ}
    (inb : ∀ a : Fin 2, off a + (![1, B] : Fin 2 → ℕ) a ≤ (![A, B] : Fin 2 → ℕ) a) (j : Fin A) (h : off = ![j.val, 0])
    (w : (⟨2, ![1, B]⟩ : Shape).Idx → Val e) (L : List (View.Piece Val ⟨2, ![A, B]⟩ e)) (b : Fin B) :
    v.read Val (v.writes Val f (⟨Rect.unit (s := ⟨2, ![A, B]⟩) off ![1, B] inb, w⟩ :: L)) (ix2 j b) = w (ix2 0 b) :=
  View.read_writes_cons_unit_of_mem v f inb w L (ix2 j b) (ix2 0 b : (⟨2, ![1, B]⟩ : Shape).Idx) h fun a => by
    match a with
    | ⟨0, _⟩ => exact (by simp : j.val = j.val + 0)
    | ⟨1, _⟩ => exact (by simp : b.val = 0 + b.val)

/-- Any other row reads what the earlier stores left. -/
theorem write2_other (v : View sig κ sp ⟨2, ![A, B]⟩ e) (f : v.ty.Contents Val) {off : Fin 2 → ℕ}
    (inb : ∀ a : Fin 2, off a + (![1, B] : Fin 2 → ℕ) a ≤ (![A, B] : Fin 2 → ℕ) a) (j : ℕ) (h : off = ![j, 0])
    (w : (⟨2, ![1, B]⟩ : Shape).Idx → Val e) (L : List (View.Piece Val ⟨2, ![A, B]⟩ e)) (r : Fin A) (hr : r.val ≠ j) (b : Fin B) :
    v.read Val (v.writes Val f (⟨Rect.unit (s := ⟨2, ![A, B]⟩) off ![1, B] inb, w⟩ :: L)) (ix2 r b)
      = v.read Val (v.writes Val f L) (ix2 r b) :=
  View.read_writes_cons_unit_of_not_mem v f inb w L (ix2 r b) h (0 : Fin 2) (by
    show r.val < j ∨ j + 1 ≤ r.val
    omega)

/-- The first rows, last stored, read their payload. -/
theorem write2_first {M : ℕ} (v : View sig κ sp ⟨2, ![A, B]⟩ e) (f : v.ty.Contents Val) {off : Fin 2 → ℕ}
    (inb : ∀ a : Fin 2, off a + (![M, B] : Fin 2 → ℕ) a ≤ (![A, B] : Fin 2 → ℕ) a) (h : off = ![0, 0])
    (w : (⟨2, ![M, B]⟩ : Shape).Idx → Val e) (L : List (View.Piece Val ⟨2, ![A, B]⟩ e)) (r : Fin A) (j : Fin M) (hr : r.val = j.val) (b : Fin B) :
    v.read Val (v.writes Val f (⟨Rect.unit (s := ⟨2, ![A, B]⟩) off ![M, B] inb, w⟩ :: L)) (ix2 r b) = w (ix2 j b) :=
  View.read_writes_cons_unit_of_mem v f inb w L (ix2 r b) (ix2 j b : (⟨2, ![M, B]⟩ : Shape).Idx) h fun a => by
    match a with
    | ⟨0, _⟩ => exact (by simp [hr] : r.val = 0 + j.val)
    | ⟨1, _⟩ => exact (by simp : b.val = 0 + b.val)

end Cert.Rows
-- ==== Proof.Loop.lean ====
module

public import proofs.«01_k».proof.Proof.Gen.KernelIdeal.Value
public import proofs.«01_k».proof.Proof.Dot
public import proofs.«01_k».proof.Proof.Rows

@[expose] public section
noncomputable section
namespace Cert.KernelIdeal.Val
open Cert.KernelIdeal Cert.KernelIdeal.Gen Cert.Rows Idealize.ShloMosaic Idealize.ShloMosaic.TcCoe Idealize.SL.Sem

variable (c : Dev nD) (i : grid0.Coords) (arg1 : Memref sig .tc .vmem S26x40x2048 .i32) (harg1 : arg1.IsWhole) (arg2 : Memref sig .tc .vmem S26x2048 .i32) (harg2 : arg2.IsWhole) (arg3 : Memref sig .tc .vmem S40x2048 .i32) (harg3 : arg3.IsWhole) (arg4 : Memref sig .tc .vmem S1x2048 .f32) (harg4 : arg4.IsWhole) (arg5 : Memref sig .tc .vmem S2048x256 .fp8e5m2) (harg5 : arg5.IsWhole) (arg6 : Memref sig .tc .vmem S1x2048 .f32) (harg6 : arg6.IsWhole) (arg7 : Memref sig .tc .vmem S27x160x256 .f32) (harg7 : arg7.IsWhole) (arg8 : Memref sig .tc .vmem S27x160x256 .fp8e4m3) (harg8 : arg8.IsWhole) (arg9 : Memref sig .tc .vmem S27x256 .f32) (harg9 : arg9.IsWhole) (arg10 : Memref sig .tc .vmem S27x2048 .f32) (harg10 : arg10.IsWhole)

/-- One trip of the loop over the gathered offsets stores one slab of the accumulator. -/
theorem trip1_eq (𝒱 : Variants) (bd : Option 𝒱.V) (v18 : Vec Ideal S2048x256 .fp8e5m2) (X1 : BufTy.Contents (Elt Ideal) arg1.view.ty)
    (X10 : BufTy.Contents (Elt Ideal) arg10.view.ty) (k : Fin k0_t1_loop.trips) (f : BufTy.Contents (Elt Ideal) arg7.view.ty) :
    tripL_k0_t1 (F := Ideal) 𝒱 c bd i arg1 harg1 arg2 harg2 arg3 harg3 arg4 harg4 arg5 harg5 arg6 harg6 arg7 harg7 arg8 harg8 arg9 harg9 arg10 harg10 v18 X1 X10 k f
      = [⟨Rect.unit (s := S27x160x256) (k0_off3 k) S1x160x256.size (k0_off3_inb k),
          k0_pay18 v18 (View.readAt (Elt Ideal) arg1.view (Rect.unit (s := S26x40x2048) (k0_off1 k) S1x40x2048.size (k0_off1_inb k)).toLoadRect X1)
            (View.readAt (Elt Ideal) arg10.view (Rect.unit (s := S27x2048) (k0_off2 k) S1x2048.size (k0_off2_inb k)).toLoadRect X10)
            (View.readAt (Elt Ideal) arg7.view (Rect.unit (s := S27x160x256) (k0_off3 k) S1x160x256.size (k0_off3_inb k)).toLoadRect f)⟩] := by
  unfold tripL_k0_t1 trip_k0_t1
  rfl

/-- The gathered offset whose product slab `r` of the accumulator receives, `r` other than 13. -/
def slot (r : Fin 27) : ℕ := if r.val < 13 then r.val else r.val - 1

/-- A gathered offset's product, from what the buffers read. -/
abbrev dotJ (w : Vec Ideal S26x40x2048 .i32) (s : Vec Ideal S27x2048 .f32) (v18 : Vec Ideal S2048x256 .fp8e5m2) (j : Fin 26) (c : Fin 160) (d : Fin 256) : EReal :=
  dotB (fun a p => w (ix3 j a p)) (fun p => s (ix2 (Fin.castSucc j) p)) (fun p d => v18 (ix2 p d)) c d

/-- After `n` trips: the slabs of the first `n` gathered offsets have their products added, every other slab is as it was. -/
theorem loop1_read (𝒱 : Variants) (bd : Option 𝒱.V) (v18 : Vec Ideal S2048x256 .fp8e5m2) (X1 : BufTy.Contents (Elt Ideal) arg1.view.ty)
    (X10 : BufTy.Contents (Elt Ideal) arg10.view.ty) (G : BufTy.Contents (Elt Ideal) arg7.view.ty) (n : ℕ) (hn : n ≤ 26) (x : Fin 160) (d : Fin 256) :
    (∀ r : Fin 27, r.val ≠ 13 → ∀ j : Fin 26, slot r = j.val → j.val < n →
      arg7.view.read (Elt Ideal) (arg7.view.writes (Elt Ideal) G (pb_k0_t1 (F := Ideal) 𝒱 c bd i arg1 harg1 arg2 harg2 arg3 harg3 arg4 harg4 arg5 harg5 arg6 harg6 arg7 harg7 arg8 harg8 arg9 harg9 arg10 harg10 v18 X1 X10 G n)) (ix3 r x d)
        = arg7.view.read (Elt Ideal) G (ix3 r x d)
          + dotJ (arg1.view.read (Elt Ideal) X1) (arg10.view.read (Elt Ideal) X10) v18 j x d)
    ∧ (∀ r : Fin 27, (r.val = 13 ∨ n ≤ slot r) →
      arg7.view.read (Elt Ideal) (arg7.view.writes (Elt Ideal) G (pb_k0_t1 (F := Ideal) 𝒱 c bd i arg1 harg1 arg2 harg2 arg3 harg3 arg4 harg4 arg5 harg5 arg6 harg6 arg7 harg7 arg8 harg8 arg9 harg9 arg10 harg10 v18 X1 X10 G n)) (ix3 r x d)
        = arg7.view.read (Elt Ideal) G (ix3 r x d)) := by
  induction n with
  | zero => exact ⟨fun r _ j _ hj => absurd hj (by omega), fun r _ => rfl⟩
  | succ n ih =>
    obtain ⟨ih1, ih2⟩ := ih (by omega)
    have ht : n < k0_t1_loop.trips := by
      show n < k0_t1_loop.trips
      have : k0_t1_loop.trips = 26 := by decide
      omega
    have hs := pb_k0_t1_succ (F := Ideal) 𝒱 c bd i arg1 harg1 arg2 harg2 arg3 harg3 arg4 harg4 arg5 harg5 arg6 harg6 arg7 harg7 arg8 harg8 arg9 harg9 arg10 harg10 v18 X1 X10 G ⟨n, ht⟩
    rw [trip1_eq] at hs
    have h3 := k0_off3_eq ⟨n, ht⟩
    have hj3 : (if n < 13 then n else n + 1) < 27 := by split <;> omega
    refine ⟨fun r hr j hj hjn => ?_, fun r hr => ?_⟩
    · rw [hs, List.singleton_append]
      by_cases hjn' : j.val = n
      · have hrv : r.val = (if n < 13 then n else n + 1) := by
          unfold slot at hj
          split at hj <;> split <;> omega
        rw [write3_same arg7.view G _ r (by rw [h3, hrv])]
        rw [pay18_apply]
        rw [readAt3 arg7.view _ _ r (by rw [h3, hrv])]
        have e := ih2 r (.inr (by omega))
        rw [e]
        congr 1
        unfold dotJ
        congr 1
        · funext a p
          exact readAt3 arg1.view X1 _ j (by rw [k0_off1_eq]; simp [hjn']) a p
        · funext p
          exact readAt2 arg10.view X10 _ (Fin.castSucc j) (by rw [k0_off2_eq]; simp [hjn']) p
      · rw [write3_other arg7.view G _ _ h3 _ _ r (by
          show r.val ≠ (if n < 13 then n else n + 1)
          unfold slot at hj
          split at hj <;> split <;> omega)]
        exact ih1 r hr j hj (by omega)
    · rw [hs, List.singleton_append]
      rw [write3_other arg7.view G _ _ h3 _ _ r (by
          show r.val ≠ (if n < 13 then n else n + 1)
          unfold slot at hr
          split at hr <;> split <;> omega)]
      exact ih2 r (hr.imp id (by omega))

end Cert.KernelIdeal.Val
end
-- ==== Proof.Block.lean ====
module

public import proofs.«01_k».proof.Proof.Loop

@[expose] public section
noncomputable section
namespace Cert.KernelIdeal.Val
open Cert.KernelIdeal Cert.KernelIdeal.Gen Cert.Rows Idealize.ShloMosaic Idealize.ShloMosaic.TcCoe Idealize.SL.Sem

/-- The products of one block of pairs, at slab `r`: the centre slab takes the block's own rows, the others the gathered ones. -/
def contrib (x0 : Vec Ideal S26x40x2048 .i32) (x1 : Vec Ideal S26x2048 .i32) (x2 : Vec Ideal S40x2048 .i32) (x3 : Vec Ideal S1x2048 .f32) (x4 : Vec Ideal S2048x256 .fp8e5m2) (x5 : Vec Ideal S1x2048 .f32) (r : Fin 27) (x : Fin 160) (d : Fin 256) : EReal :=
  if h : r.val = 13 then dotB (fun a p => x2 (ix2 a p)) (fun p => x3 (ix2 0 p) * x5 (ix2 0 p)) (fun p d => x4 (ix2 p d)) x d
  else dotB (fun a p => x0 (ix3 ⟨slot r, by unfold slot; split <;> omega⟩ a p))
    (fun p => Ideal.ofBits .f32 (x1 (ix2 ⟨slot r, by unfold slot; split <;> omega⟩ p)) * x5 (ix2 0 p)) (fun p d => x4 (ix2 p d)) x d

section
variable (c : Dev nD) (i : grid0.Coords) (arg1 : Memref sig .tc .vmem S26x40x2048 .i32) (harg1 : arg1.IsWhole) (arg2 : Memref sig .tc .vmem S26x2048 .i32) (harg2 : arg2.IsWhole) (arg3 : Memref sig .tc .vmem S40x2048 .i32) (harg3 : arg3.IsWhole) (arg4 : Memref sig .tc .vmem S1x2048 .f32) (harg4 : arg4.IsWhole) (arg5 : Memref sig .tc .vmem S2048x256 .fp8e5m2) (harg5 : arg5.IsWhole) (arg6 : Memref sig .tc .vmem S1x2048 .f32) (harg6 : arg6.IsWhole) (arg7 : Memref sig .tc .vmem S27x160x256 .f32) (harg7 : arg7.IsWhole) (arg8 : Memref sig .tc .vmem S27x160x256 .fp8e4m3) (harg8 : arg8.IsWhole) (arg9 : Memref sig .tc .vmem S27x256 .f32) (harg9 : arg9.IsWhole) (arg10 : Memref sig .tc .vmem S27x2048 .f32) (harg10 : arg10.IsWhole)
variable (x0 : Vec Ideal S26x40x2048 .i32) (x1 : Vec Ideal S26x2048 .i32) (x2 : Vec Ideal S40x2048 .i32) (x3 : Vec Ideal S1x2048 .f32) (x4 : Vec Ideal S2048x256 .fp8e5m2) (x5 : Vec Ideal S1x2048 .f32) (xo6 : Vec Ideal S27x160x256 .f32)

/-- The two stores that fill the scratch of scale products. -/
abbrev sPieces (arg2 : Memref sig .tc .vmem S26x2048 .i32) (harg2 : arg2.IsWhole) (arg4 : Memref sig .tc .vmem S1x2048 .f32) (harg4 : arg4.IsWhole) (arg6 : Memref sig .tc .vmem S1x2048 .f32) (harg6 : arg6.IsWhole)
    (x1 : Vec Ideal S26x2048 .i32) (x3 : Vec Ideal S1x2048 .f32) (x5 : Vec Ideal S1x2048 .f32) : List (View.Piece (Elt Ideal) S27x2048 .f32) :=
  [⟨Rect.unit (s := S27x2048) ![26, 0] S1x2048.size inb_S27x2048_S1x2048_26_0,
      k0_pay16 (View.readAt (Elt Ideal) arg6.view (Rect.unit (s := S1x2048) ![0, 0] S1x2048.size inb_S1x2048_S1x2048_0_0).toLoadRect (harg6.unread x5))
        (View.readAt (Elt Ideal) arg4.view (Rect.unit (s := S1x2048) ![0, 0] S1x2048.size inb_S1x2048_S1x2048_0_0).toLoadRect (harg4.unread x3))⟩,
    ⟨Rect.unit (s := S27x2048) ![0, 0] S26x2048.size inb_S27x2048_S26x2048_0_0,
      k0_pay15 (View.readAt (Elt Ideal) arg6.view (Rect.unit (s := S1x2048) ![0, 0] S1x2048.size inb_S1x2048_S1x2048_0_0).toLoadRect (harg6.unread x5))
        (View.readAt (Elt Ideal) arg2.view (Rect.unit (s := S26x2048) ![0, 0] S26x2048.size inb_S26x2048_S26x2048_0_0).toLoadRect (harg2.unread x1))⟩]

/-- The block's output gradients, as loaded. -/
abbrev dyLoad (arg5 : Memref sig .tc .vmem S2048x256 .fp8e5m2) (harg5 : arg5.IsWhole) (x4 : Vec Ideal S2048x256 .fp8e5m2) : Vec Ideal S2048x256 .fp8e5m2 :=
  View.readAt (Elt Ideal) arg5.view (Rect.unit (s := S2048x256) ![0, 0] S2048x256.size inb_S2048x256_S2048x256_0_0).toLoadRect (harg5.unread x4)

/-- The stores of the loop over the gathered offsets, over contents `G`. -/
abbrev loopL (c : Dev nD) (i : grid0.Coords) (arg1 : Memref sig .tc .vmem S26x40x2048 .i32) (harg1 : arg1.IsWhole) (arg2 : Memref sig .tc .vmem S26x2048 .i32) (harg2 : arg2.IsWhole) (arg3 : Memref sig .tc .vmem S40x2048 .i32) (harg3 : arg3.IsWhole) (arg4 : Memref sig .tc .vmem S1x2048 .f32) (harg4 : arg4.IsWhole) (arg5 : Memref sig .tc .vmem S2048x256 .fp8e5m2) (harg5 : arg5.IsWhole) (arg6 : Memref sig .tc .vmem S1x2048 .f32) (harg6 : arg6.IsWhole) (arg7 : Memref sig .tc .vmem S27x160x256 .f32) (harg7 : arg7.IsWhole) (arg8 : Memref sig .tc .vmem S27x160x256 .fp8e4m3) (harg8 : arg8.IsWhole) (arg9 : Memref sig .tc .vmem S27x256 .f32) (harg9 : arg9.IsWhole) (arg10 : Memref sig .tc .vmem S27x2048 .f32) (harg10 : arg10.IsWhole) (x0 : Vec Ideal S26x40x2048 .i32) (x1 : Vec Ideal S26x2048 .i32) (x2 : Vec Ideal S40x2048 .i32) (x3 : Vec Ideal S1x2048 .f32) (x4 : Vec Ideal S2048x256 .fp8e5m2) (x5 : Vec Ideal S1x2048 .f32)
    (G : BufTy.Contents (Elt Ideal) arg7.view.ty) : List (View.Piece (Elt Ideal) S27x160x256 .f32) :=
  pb_k0_t1 (F := Ideal) Variants.none c none i arg1 harg1 arg2 harg2 arg3 harg3 arg4 harg4 arg5 harg5 arg6 harg6 arg7 harg7 arg8 harg8 arg9 harg9 arg10 harg10 (dyLoad arg5 harg5 x4) (harg1.unread x0)
    (arg10.view.writes (Elt Ideal) arg10.view.junk (sPieces arg2 harg2 arg4 harg4 arg6 harg6 x1 x3 x5)) G k0_t1_loop.trips

/-- The centre slab's store, the slab having read `old`. -/
abbrev centreP (c : Dev nD) (i : grid0.Coords) (arg1 : Memref sig .tc .vmem S26x40x2048 .i32) (harg1 : arg1.IsWhole) (arg2 : Memref sig .tc .vmem S26x2048 .i32) (harg2 : arg2.IsWhole) (arg3 : Memref sig .tc .vmem S40x2048 .i32) (harg3 : arg3.IsWhole) (arg4 : Memref sig .tc .vmem S1x2048 .f32) (harg4 : arg4.IsWhole) (arg5 : Memref sig .tc .vmem S2048x256 .fp8e5m2) (harg5 : arg5.IsWhole) (arg6 : Memref sig .tc .vmem S1x2048 .f32) (harg6 : arg6.IsWhole) (arg7 : Memref sig .tc .vmem S27x160x256 .f32) (harg7 : arg7.IsWhole) (arg8 : Memref sig .tc .vmem S27x160x256 .fp8e4m3) (harg8 : arg8.IsWhole) (arg9 : Memref sig .tc .vmem S27x256 .f32) (harg9 : arg9.IsWhole) (arg10 : Memref sig .tc .vmem S27x2048 .f32) (harg10 : arg10.IsWhole) (x0 : Vec Ideal S26x40x2048 .i32) (x1 : Vec Ideal S26x2048 .i32) (x2 : Vec Ideal S40x2048 .i32) (x3 : Vec Ideal S1x2048 .f32) (x4 : Vec Ideal S2048x256 .fp8e5m2) (x5 : Vec Ideal S1x2048 .f32)
    (old : Vec Ideal S1x160x256 .f32) : View.Piece (Elt Ideal) S27x160x256 .f32 :=
  ⟨Rect.unit (s := S27x160x256) ![13, 0, 0] S1x160x256.size inb_S27x160x256_S1x160x256_13_0_0,
    k0_pay1 (k0_pay17 (dyLoad arg5 harg5 x4)) (k0_pay19 old)
      (k0_pay20 (View.readAt (Elt Ideal) arg3.view (Rect.unit (s := S40x2048) ![0, 0] S40x2048.size inb_S40x2048_S40x2048_0_0).toLoadRect (harg3.unread x2))
        (arg10.view.readCov (sPieces arg2 harg2 arg4 harg4 arg6 harg6 x1 x3 x5) (Rect.unit (s := S27x2048) ![26, 0] S1x2048.size inb_S27x2048_S1x2048_26_0).toLoadRect))⟩

/-- The centre slab, as loaded. -/
abbrev row13 (arg7 : Memref sig .tc .vmem S27x160x256 .f32) (f : BufTy.Contents (Elt Ideal) arg7.view.ty) : Vec Ideal S1x160x256 .f32 :=
  View.readAt (Elt Ideal) arg7.view (Rect.unit (s := S27x160x256) ![13, 0, 0] S1x160x256.size inb_S27x160x256_S1x160x256_13_0_0).toLoadRect f

/-- The stores of one grid point into the accumulator, over contents `G`. -/
abbrev runL (c : Dev nD) (i : grid0.Coords) (arg1 : Memref sig .tc .vmem S26x40x2048 .i32) (harg1 : arg1.IsWhole) (arg2 : Memref sig .tc .vmem S26x2048 .i32) (harg2 : arg2.IsWhole) (arg3 : Memref sig .tc .vmem S40x2048 .i32) (harg3 : arg3.IsWhole) (arg4 : Memref sig .tc .vmem S1x2048 .f32) (harg4 : arg4.IsWhole) (arg5 : Memref sig .tc .vmem S2048x256 .fp8e5m2) (harg5 : arg5.IsWhole) (arg6 : Memref sig .tc .vmem S1x2048 .f32) (harg6 : arg6.IsWhole) (arg7 : Memref sig .tc .vmem S27x160x256 .f32) (harg7 : arg7.IsWhole) (arg8 : Memref sig .tc .vmem S27x160x256 .fp8e4m3) (harg8 : arg8.IsWhole) (arg9 : Memref sig .tc .vmem S27x256 .f32) (harg9 : arg9.IsWhole) (arg10 : Memref sig .tc .vmem S27x2048 .f32) (harg10 : arg10.IsWhole) (x0 : Vec Ideal S26x40x2048 .i32) (x1 : Vec Ideal S26x2048 .i32) (x2 : Vec Ideal S40x2048 .i32) (x3 : Vec Ideal S1x2048 .f32) (x4 : Vec Ideal S2048x256 .fp8e5m2) (x5 : Vec Ideal S1x2048 .f32)
    (G : BufTy.Contents (Elt Ideal) arg7.view.ty) : List (View.Piece (Elt Ideal) S27x160x256 .f32) :=
  centreP c i arg1 harg1 arg2 harg2 arg3 harg3 arg4 harg4 arg5 harg5 arg6 harg6 arg7 harg7 arg8 harg8 arg9 harg9 arg10 harg10 x0 x1 x2 x3 x4 x5 (row13 arg7 (arg7.view.writes (Elt Ideal) G (loopL c i arg1 harg1 arg2 harg2 arg3 harg3 arg4 harg4 arg5 harg5 arg6 harg6 arg7 harg7 arg8 harg8 arg9 harg9 arg10 harg10 x0 x1 x2 x3 x4 x5 G))) :: loopL c i arg1 harg1 arg2 harg2 arg3 harg3 arg4 harg4 arg5 harg5 arg6 harg6 arg7 harg7 arg8 harg8 arg9 harg9 arg10 harg10 x0 x1 x2 x3 x4 x5 G

/-- What the scratch reads: row `j` under 26 is the gathered scales times the output gradients' scales. -/
theorem s_read (f : BufTy.Contents (Elt Ideal) arg10.view.ty) (j : Fin 26) (p : Fin 2048) :
    arg10.view.read (Elt Ideal) (arg10.view.writes (Elt Ideal) f (sPieces arg2 harg2 arg4 harg4 arg6 harg6 x1 x3 x5)) (ix2 (Fin.castSucc j) p)
      = Ideal.ofBits .f32 (x1 (ix2 j p)) * x5 (ix2 0 p) := by
  rw [write2_other arg10.view f _ 26 rfl _ _ (Fin.castSucc j) (by have := j.isLt; simp; omega) p]
  rw [write2_first arg10.view f _ rfl _ [] (Fin.castSucc j) j rfl p]
  rw [pay15_apply]
  rw [View.readAt_full arg2.view, View.readAt_full arg6.view, Memref.IsWhole.read_unread, Memref.IsWhole.read_unread]

/-- Row 26 is the centre's scales times the output gradients' scales. -/
theorem s_read26 (p : Fin 2048) :
    arg10.view.readCov (sPieces arg2 harg2 arg4 harg4 arg6 harg6 x1 x3 x5) (Rect.unit (s := S27x2048) ![26, 0] S1x2048.size inb_S27x2048_S1x2048_26_0).toLoadRect (ix2 0 p)
      = x3 (ix2 0 p) * x5 (ix2 0 p) := by
  unfold View.readCov
  rw [readAt2 (off := ![26, 0]) arg10.view _ _ (26 : Fin 27) rfl p]
  rw [write2_same (off := ![26, 0]) arg10.view _ _ (26 : Fin 27) rfl _ _ p]
  rw [pay16_apply]
  rw [View.readAt_full arg4.view, View.readAt_full arg6.view, Memref.IsWhole.read_unread, Memref.IsWhole.read_unread]

/-- One grid point adds its block's products to what the accumulator read. -/
theorem run_read (G : BufTy.Contents (Elt Ideal) arg7.view.ty) (r : Fin 27) (x : Fin 160) (d : Fin 256) :
    arg7.view.read (Elt Ideal) (arg7.view.writes (Elt Ideal) G (runL c i arg1 harg1 arg2 harg2 arg3 harg3 arg4 harg4 arg5 harg5 arg6 harg6 arg7 harg7 arg8 harg8 arg9 harg9 arg10 harg10 x0 x1 x2 x3 x4 x5 G)) (ix3 r x d)
      = arg7.view.read (Elt Ideal) G (ix3 r x d) + contrib x0 x1 x2 x3 x4 x5 r x d := by
  have htr : k0_t1_loop.trips = 26 := by decide
  have hl := loop1_read (c := c) (i := i) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10)
    Variants.none none (dyLoad arg5 harg5 x4) (harg1.unread x0) (arg10.view.writes (Elt Ideal) arg10.view.junk (sPieces arg2 harg2 arg4 harg4 arg6 harg6 x1 x3 x5)) G k0_t1_loop.trips (by omega) x d
  have hdy : dyLoad arg5 harg5 x4 = x4 := by
    unfold dyLoad
    rw [View.readAt_full arg5.view, Memref.IsWhole.read_unread]
  by_cases h : r.val = 13
  · have hr : r = (13 : Fin 27) := Fin.ext h
    unfold runL centreP
    rw [write3_same arg7.view G _ r (by rw [h])]
    rw [pay1_apply]
    unfold row13
    rw [readAt3 arg7.view _ _ r (by rw [h])]
    rw [hl.2 r (.inl h)]
    unfold contrib
    rw [dif_pos h]
    congr 1
    rw [View.readAt_full arg3.view, Memref.IsWhole.read_unread, hdy]
    congr 1
    funext p
    apply s_read26
  · unfold runL centreP
    rw [write3_other arg7.view G _ 13 rfl _ _ r h]
    rw [hl.1 r h ⟨slot r, by unfold slot; split <;> omega⟩ rfl (by show slot r < _; unfold slot; split <;> omega)]
    unfold contrib
    rw [dif_neg h]
    congr 1
    unfold dotJ
    rw [Memref.IsWhole.read_unread, hdy]
    congr 1
    funext p
    apply s_read

/-- Whole zeros. -/
abbrev zerosL : List (View.Piece (Elt Ideal) S27x160x256 .f32) :=
  [⟨Rect.unit (s := S27x160x256) ![0, 0, 0] S27x160x256.size inb_S27x160x256_S27x160x256_0_0_0, k0_pay13 (F := Ideal)⟩]

theorem runA_eq (hc0 : cond0_0 i) (hc1 : ¬cond0_1 i) :
    (kernelRun0_A (F := Ideal) c i arg1 harg1 arg2 harg2 arg3 harg3 arg4 harg4 arg5 harg5 arg6 harg6 arg7 harg7 arg8 harg8 arg9 harg9 arg10 harg10 hc0 hc1 x0 x1 x2 x3 x4 x5).1
      = runL c i arg1 harg1 arg2 harg2 arg3 harg3 arg4 harg4 arg5 harg5 arg6 harg6 arg7 harg7 arg8 harg8 arg9 harg9 arg10 harg10 x0 x1 x2 x3 x4 x5 (arg7.view.writes (Elt Ideal) arg7.view.junk zerosL) ++ zerosL := by
  have h : (kernelRun0_A (F := Ideal) c i arg1 harg1 arg2 harg2 arg3 harg3 arg4 harg4 arg5 harg5 arg6 harg6 arg7 harg7 arg8 harg8 arg9 harg9 arg10 harg10 hc0 hc1 x0 x1 x2 x3 x4 x5).1
      = centreP c i arg1 harg1 arg2 harg2 arg3 harg3 arg4 harg4 arg5 harg5 arg6 harg6 arg7 harg7 arg8 harg8 arg9 harg9 arg10 harg10 x0 x1 x2 x3 x4 x5 (arg7.view.readCov (loopL c i arg1 harg1 arg2 harg2 arg3 harg3 arg4 harg4 arg5 harg5 arg6 harg6 arg7 harg7 arg8 harg8 arg9 harg9 arg10 harg10 x0 x1 x2 x3 x4 x5 (arg7.view.writes (Elt Ideal) arg7.view.junk zerosL) ++ zerosL)
            (Rect.unit (s := S27x160x256) ![13, 0, 0] S1x160x256.size inb_S27x160x256_S1x160x256_13_0_0).toLoadRect)
          :: (loopL c i arg1 harg1 arg2 harg2 arg3 harg3 arg4 harg4 arg5 harg5 arg6 harg6 arg7 harg7 arg8 harg8 arg9 harg9 arg10 harg10 x0 x1 x2 x3 x4 x5 (arg7.view.writes (Elt Ideal) arg7.view.junk zerosL) ++ zerosL) := by
    unfold kernelRun0_A
    dsimp only
    sl_unfold_words
    rfl
  rw [h]
  unfold View.readCov
  rw [View.writes_append]
  rfl

theorem runB_eq (hc0 : ¬cond0_0 i) (hc1 : ¬cond0_1 i) :
    (kernelRun0_B (F := Ideal) c i arg1 harg1 arg2 harg2 arg3 harg3 arg4 harg4 arg5 harg5 arg6 harg6 arg7 harg7 arg8 harg8 arg9 harg9 arg10 harg10 hc0 hc1 x0 x1 x2 x3 x4 x5 xo6).1 = runL c i arg1 harg1 arg2 harg2 arg3 harg3 arg4 harg4 arg5 harg5 arg6 harg6 arg7 harg7 arg8 harg8 arg9 harg9 arg10 harg10 x0 x1 x2 x3 x4 x5 (harg7.unread xo6) := by
  unfold kernelRun0_B
  rfl

theorem runC_eq (hc0 : ¬cond0_0 i) (hc1 : cond0_1 i) :
    (kernelRun0_C (F := Ideal) c i arg1 harg1 arg2 harg2 arg3 harg3 arg4 harg4 arg5 harg5 arg6 harg6 arg7 harg7 arg8 harg8 arg9 harg9 arg10 harg10 hc0 hc1 x0 x1 x2 x3 x4 x5 xo6).1 = runL c i arg1 harg1 arg2 harg2 arg3 harg3 arg4 harg4 arg5 harg5 arg6 harg6 arg7 harg7 arg8 harg8 arg9 harg9 arg10 harg10 x0 x1 x2 x3 x4 x5 (harg7.unread xo6) := by
  unfold kernelRun0_C
  rfl

theorem out_A (hc0 : cond0_0 i) (hc1 : ¬cond0_1 i) (r : Fin 27) (x : Fin 160) (d : Fin 256) :
    out0_A_6 (F := Ideal) c i arg1 harg1 arg2 harg2 arg3 harg3 arg4 harg4 arg5 harg5 arg6 harg6 arg7 harg7 arg8 harg8 arg9 harg9 arg10 harg10 hc0 hc1 x0 x1 x2 x3 x4 x5 (ix3 r x d) = contrib x0 x1 x2 x3 x4 x5 r x d := by
  have hcov := cover0_A_6 (F := Ideal) c i arg1 harg1 arg2 harg2 arg3 harg3 arg4 harg4 arg5 harg5 arg6 harg6 arg7 harg7 arg8 harg8 arg9 harg9 arg10 harg10 hc0 hc1 x0 x1 x2 x3 x4 x5 (ix3 r x d)
  unfold out0_A_6
  rw [View.read_writes_apply_eq _ _ arg7.view arg7.view.junk _ _ hcov]
  rw [runA_eq, View.writes_append, run_read]
  have hz : View.read (Elt Ideal) arg7.view (arg7.view.writes (Elt Ideal) arg7.view.junk zerosL) = k0_pay13 (F := Ideal) :=
    View.read_writes_full (Val := Elt Ideal) arg7.view arg7.view.junk (off := ![0, 0, 0]) inb_S27x160x256_S27x160x256_0_0_0 (k0_pay13 (F := Ideal)) []
  rw [hz, pay13_apply, zero_add]

theorem out_B (hc0 : ¬cond0_0 i) (hc1 : ¬cond0_1 i) (r : Fin 27) (x : Fin 160) (d : Fin 256) :
    out0_B_6 (F := Ideal) c i arg1 harg1 arg2 harg2 arg3 harg3 arg4 harg4 arg5 harg5 arg6 harg6 arg7 harg7 arg8 harg8 arg9 harg9 arg10 harg10 hc0 hc1 x0 x1 x2 x3 x4 x5 xo6 (ix3 r x d) = xo6 (ix3 r x d) + contrib x0 x1 x2 x3 x4 x5 r x d := by
  unfold out0_B_6
  rw [runB_eq, run_read, Memref.IsWhole.read_unread]

theorem out_C (hc0 : ¬cond0_0 i) (hc1 : cond0_1 i) (r : Fin 27) (x : Fin 160) (d : Fin 256) :
    out0_C_6 (F := Ideal) c i arg1 harg1 arg2 harg2 arg3 harg3 arg4 harg4 arg5 harg5 arg6 harg6 arg7 harg7 arg8 harg8 arg9 harg9 arg10 harg10 hc0 hc1 x0 x1 x2 x3 x4 x5 xo6 (ix3 r x d) = xo6 (ix3 r x d) + contrib x0 x1 x2 x3 x4 x5 r x d := by
  unfold out0_C_6
  rw [runC_eq, run_read, Memref.IsWhole.read_unread]

end

end Cert.KernelIdeal.Val
end
-- ==== Proof.Expo.lean ====
/-
  The scale's exponent, at the extended reals: the kernel finds the exponent field of `t` by comparing with eight powers of two
  and builds `2^e` and `2^-e` by shifting the field into a word; the reference takes a logarithm and a power. On every `t ≥ 0`
  the two agree.
-/
module

public import Idealize.ShloMosaic.PureOps.Ideal
public import Idealize.ShloMosaic.PureOps.Ideal.Laws
public import Idealize.ShloMosaic.Lib.ValueIdx

@[expose] public section

noncomputable section

namespace Cert.Expo

open Idealize.ShloMosaic

/-- The float whose word is `n` shifted into the exponent field. -/
def T (n : ℕ) : EReal := Ideal.ofBits .f32 (BitVec.ofNat 32 n <<< 23)

/-- One comparison: the field goes up by `k` where `t` reaches the float of the larger field. -/
def step (t : Ideal .f32) (b k : BitVec 32) : BitVec 32 :=
  Scalar.select (FloatOps.cmpf .oge t (FloatOps.ofBits .f32 (IntOp.shli .vector (b + k) 23#32))) (b + k) b

/-- The exponent field of `t`, by eight comparisons. -/
def field (t : Ideal .f32) : BitVec 32 :=
  step t (step t (step t (step t (step t (step t (step t (step t 0#32 128#32) 64#32) 32#32) 16#32) 8#32) 4#32) 2#32) 1#32

/-- The kernel's exponent. -/
def kExp (b : BitVec 32) : BitVec 32 := Scalar.select (IntOp.cmpi .eq b 0#32) 0#32 (b - 126#32)

/-- The kernel's scale. -/
def kScale (t : Ideal .f32) : Ideal .f32 := FloatOps.ofBits .f32 (IntOp.shli .vector (kExp (field t) + 127#32) 23#32)

/-- The kernel's reciprocal scale. -/
def kInv (t : Ideal .f32) : Ideal .f32 := FloatOps.ofBits .f32 (IntOp.shli .vector (127#32 - kExp (field t)) 23#32)

/-- The reference's exponent. -/
def rExp (t : Ideal .f32) : Ideal .f32 :=
  Scalar.select (Ideal.cmp .olt t (Ideal.ofBits .f32 0x00800000#32)) (Ideal.ofBits .f32 0x00000000#32)
    (Ideal.liftRound Int.floor (Ideal.div (Ideal.log t) (Ideal.log (Ideal.ofBits .f32 0x40000000#32))) + Ideal.ofBits .f32 0x3F800000#32)

/-- The reference's scale. -/
def rScale (t : Ideal .f32) : Ideal .f32 :=
  Scalar.select (Ideal.cmp .olt t (Ideal.ofBits .f32 0x7F000000#32)) (Ideal.exp2 (rExp t))
    (Scalar.select (Ideal.cmp .olt t (Ideal.ofBits .f32 0x7F800000#32)) (Ideal.ofBits .f32 0x7F800000#32) (Ideal.ofBits .f32 0x00000000#32))

/-- The reference's reciprocal scale. -/
def rInv (t : Ideal .f32) : Ideal .f32 :=
  Scalar.select (Ideal.cmp .olt t (Ideal.ofBits .f32 0x7E800000#32)) (Ideal.exp2 (Ideal.ofBits .f32 0x00000000#32 - rExp t))
    (Scalar.select (Ideal.cmp .olt t (Ideal.ofBits .f32 0x7F000000#32)) (Ideal.ofBits .f32 0x00000000#32)
      (Scalar.select (Ideal.cmp .olt t (Ideal.ofBits .f32 0x7F800000#32)) (Ideal.ofBits .f32 0xFF800000#32) (Ideal.ofBits .f32 0xFF000000#32)))

theorem T_zero : T 0 = 0 := by simp [T]

theorem T_top : T 255 = ⊤ := by simp [T, Ideal.ofBits, Ideal.ieee]

/-- The exponent field of a word that is a number below 255 shifted up. -/
theorem T_normal (n : ℕ) (h0 : 1 ≤ n) (h : n ≤ 254) : T n = (((2 : ℝ) ^ ((n : ℤ) - 127) : ℝ) : EReal) := by
  have hx : ((BitVec.ofNat 32 n <<< 23).extractLsb' 23 8 : BitVec 8).toNat = n := by
    simp [BitVec.extractLsb'_toNat, Nat.shiftLeft_eq, Nat.shiftRight_eq_div_pow]; omega
  have hf : ((BitVec.ofNat 32 n <<< 23).extractLsb' 0 23 : BitVec 23).toNat = 0 := by
    simp [BitVec.extractLsb'_toNat, Nat.shiftLeft_eq]
  have hs : ((BitVec.ofNat 32 n <<< 23).extractLsb' 31 1 == 1#1) = false := by
    rw [beq_eq_false_iff_ne]; intro hc
    have := congrArg BitVec.toNat hc
    simp [BitVec.extractLsb'_toNat, Nat.shiftLeft_eq, Nat.shiftRight_eq_div_pow] at this; omega
  unfold T Ideal.ofBits Ideal.ieee
  simp only [hx, hf, Nat.reduceAdd, hs]
  rw [if_neg (by omega), if_neg (by omega)]
  refine congrArg (fun r : ℝ => (r : EReal)) ?_
  have h23 : ((2 ^ 23 + 0 : ℕ) : ℝ) = (2 : ℝ) ^ (23 : ℤ) := by norm_num
  rw [h23, if_neg Bool.false_ne_true, one_mul, ← zpow_add₀ (by norm_num : (2 : ℝ) ≠ 0)]
  refine congrArg (fun k : ℤ => (2 : ℝ) ^ k) ?_
  norm_num

theorem cmp_oge (a b : EReal) : (Ideal.cmp .oge a b = 1#1) ↔ b ≤ a := by
  simp only [Ideal.cmp]; by_cases h : b ≤ a <;> simp [h]

theorem cmp_olt_pos {a b : EReal} (h : a < b) : Ideal.cmp .olt a b = 1#1 := by simp [Ideal.cmp, h]
theorem cmp_olt_neg {a b : EReal} (h : b ≤ a) : Ideal.cmp .olt a b = 0#1 := by simp [Ideal.cmp, not_lt.mpr h]

theorem shl23 (x : BitVec 32) : IntOp.shli .vector x 23#32 = x <<< 23 := by
  simp [IntOp.shli]

/-- One comparison halves the range in which the field lies. -/
theorem step_spec (t : EReal) (b k : ℕ) (hb : b + 2 * k ≤ 256) (hT : T b ≤ t) (hu : t < T (b + 2 * k) ∨ b + 2 * k = 256) :
    ∃ b' : ℕ, step t (BitVec.ofNat 32 b) (BitVec.ofNat 32 k) = BitVec.ofNat 32 b' ∧ b' + k ≤ 256 ∧ T b' ≤ t
      ∧ (t < T (b' + k) ∨ b' + k = 256) := by
  have hadd : BitVec.ofNat 32 b + BitVec.ofNat 32 k = BitVec.ofNat 32 (b + k) := by simp [BitVec.ofNat_add]
  unfold step
  rw [shl23, hadd, Ideal.cmpf_def]
  by_cases h : T (b + k) ≤ t
  · refine ⟨b + k, ?_, by omega, h, ?_⟩
    · unfold Scalar.select; rw [if_pos]; exact (cmp_oge _ _).mpr h
    · rw [show b + k + k = b + 2 * k by ring]; exact hu
  · refine ⟨b, ?_, by omega, hT, Or.inl (not_le.mp h)⟩
    unfold Scalar.select; rw [if_neg]; intro hc; exact h ((cmp_oge _ _).mp hc)

/-- The field found: the largest whose float `t` reaches. -/
theorem field_spec (t : EReal) (ht : 0 ≤ t) :
    ∃ n : ℕ, field t = BitVec.ofNat 32 n ∧ n ≤ 255 ∧ T n ≤ t ∧ (t < T (n + 1) ∨ n = 255) := by
  obtain ⟨b1, e1, l1, t1, u1⟩ := step_spec t 0 128 (by omega) (by rw [T_zero]; exact ht) (Or.inr rfl)
  obtain ⟨b2, e2, l2, t2, u2⟩ := step_spec t b1 64 l1 t1 u1
  obtain ⟨b3, e3, l3, t3, u3⟩ := step_spec t b2 32 l2 t2 u2
  obtain ⟨b4, e4, l4, t4, u4⟩ := step_spec t b3 16 l3 t3 u3
  obtain ⟨b5, e5, l5, t5, u5⟩ := step_spec t b4 8 l4 t4 u4
  obtain ⟨b6, e6, l6, t6, u6⟩ := step_spec t b5 4 l5 t5 u5
  obtain ⟨b7, e7, l7, t7, u7⟩ := step_spec t b6 2 l6 t6 u6
  obtain ⟨b8, e8, l8, t8, u8⟩ := step_spec t b7 1 l7 t7 u7
  refine ⟨b8, ?_, by omega, t8, u8.imp_right (by omega)⟩
  unfold field
  rw [e1, e2, e3, e4, e5, e6, e7, e8]

theorem ofBits_T (n : ℕ) (b : BitVec 32) (h : b = BitVec.ofNat 32 n <<< 23) : Ideal.ofBits .f32 b = T n := by rw [h]; rfl

theorem ofBits_two : Ideal.ofBits .f32 0x40000000#32 = ((2 : ℝ) : EReal) := by
  rw [ofBits_T 128 _ (by decide), T_normal 128 (by omega) (by omega)]; norm_num

theorem ofBits_one : Ideal.ofBits .f32 0x3F800000#32 = ((1 : ℝ) : EReal) := by
  rw [ofBits_T 127 _ (by decide), T_normal 127 (by omega) (by omega)]; norm_num

theorem floor_log (n : ℕ) (r : ℝ) (h1 : (2:ℝ) ^ ((n : ℤ) - 127) ≤ r) (h2 : r < (2:ℝ) ^ ((n : ℤ) - 126)) :
    ⌊Real.log r / Real.log 2⌋ = (n : ℤ) - 127 := by
  have hr : 0 < r := lt_of_lt_of_le (by positivity) h1
  have h2' : 0 < Real.log 2 := Real.log_pos (by norm_num)
  rw [Int.floor_eq_iff]
  constructor
  · rw [le_div_iff₀ h2']
    have := Real.log_le_log (by positivity) h1
    rwa [Real.log_zpow] at this
  · rw [div_lt_iff₀ h2']
    have := Real.log_lt_log hr h2
    rw [Real.log_zpow] at this
    have e : (((n : ℤ) - 126 : ℤ) : ℝ) = (((n : ℤ) - 127 : ℤ) : ℝ) + 1 := by push_cast; ring
    rwa [e] at this

theorem T_mono {m n : ℕ} (h : m ≤ n) (hn : n ≤ 255) : T m ≤ T n := by
  rcases Nat.eq_zero_or_pos m with rfl | hm
  · rw [T_zero]
    rcases Nat.eq_zero_or_pos n with rfl | hn0
    · rw [T_zero]
    · rcases Nat.lt_or_ge n 255 with h' | h'
      · rw [T_normal n hn0 (by omega)]; exact_mod_cast (by positivity : (0:ℝ) ≤ (2:ℝ) ^ ((n : ℤ) - 127))
      · rw [show n = 255 by omega, T_top]; exact le_top
  · rcases Nat.lt_or_ge n 255 with h' | h'
    · rw [T_normal n (by omega) (by omega), T_normal m hm (by omega)]
      exact EReal.coe_le_coe_iff.mpr (zpow_le_zpow_right₀ (by norm_num) (by omega))
    · rw [show n = 255 by omega, T_top]; exact le_top

/-- The kernel's exponent on a field. -/
theorem kExp_zero : kExp (BitVec.ofNat 32 0) = 0#32 := by decide

theorem kExp_pos (n : ℕ) (h0 : 1 ≤ n) (h : n ≤ 255) : kExp (BitVec.ofNat 32 n) = BitVec.ofNat 32 n - 126#32 := by
  unfold kExp Scalar.select
  rw [if_neg]
  intro hc
  have : BitVec.ofNat 32 n = 0#32 := by
    by_contra hne
    have hb : (BitVec.ofNat 32 n == 0#32) = false := beq_eq_false_iff_ne.mpr hne
    simp [IntOp.cmpi, hb] at hc
  have := congrArg BitVec.toNat this
  simp at this; omega

theorem rExp_low (t : EReal) (h : t < T 1) : rExp t = 0 := by
  unfold rExp
  rw [ofBits_T 1 0x00800000#32 (by decide), cmp_olt_pos h, ValueIdx.select_one, Ideal.ofBits_zero_f32]

theorem rExp_mid (n : ℕ) (h0 : 1 ≤ n) (h : n ≤ 253) (t : EReal) (h1 : T n ≤ t) (h2 : t < T (n + 1)) :
    rExp t = (((n : ℝ) - 126 : ℝ) : EReal) := by
  rw [T_normal n h0 (by omega)] at h1
  rw [T_normal (n + 1) (by omega) (by omega)] at h2
  have hlow : T 1 ≤ t := (T_mono h0 (by omega)).trans (by rw [T_normal n h0 (by omega)]; exact h1)
  induction t using EReal.rec with
  | bot => exact absurd h1 (by simp)
  | top => exact absurd h2 (by simp)
  | coe r =>
    rw [EReal.coe_le_coe_iff] at h1
    rw [EReal.coe_lt_coe_iff] at h2
    have hr : 0 < r := lt_of_lt_of_le (by positivity) h1
    unfold rExp
    rw [ofBits_T 1 0x00800000#32 (by decide), cmp_olt_neg hlow, ValueIdx.select_zero, ofBits_two, ofBits_one, Ideal.log_coe, Ideal.log_coe,
      if_neg (by linarith), if_neg (by norm_num)]
    have hl : Real.log 2 ≠ 0 := (Real.log_pos (by norm_num)).ne'
    have hd : Ideal.div ((Real.log r : ℝ) : EReal) ((Real.log 2 : ℝ) : EReal) = ((Real.log r / Real.log 2 : ℝ) : EReal) := by
      unfold Ideal.div
      rw [if_neg (by exact_mod_cast hl), ← EReal.coe_inv, ← EReal.coe_mul, div_eq_mul_inv]
    rw [hd, Ideal.liftRound_coe, floor_log n r h1 (by convert h2 using 2; push_cast; ring), ← EReal.coe_add]
    congr 1; push_cast; ring

theorem exp2_int (k : ℤ) (x : ℝ) (h : x = k) : Ideal.exp2 (x : EReal) = (((2:ℝ) ^ k : ℝ) : EReal) := by
  rw [Ideal.exp2_coe, h]; exact congrArg _ (Real.rpow_intCast 2 k)

/-- The scales agree. -/
theorem scale_eq (t : EReal) (ht : 0 ≤ t) : kScale t = rScale t := by
  obtain ⟨n, hn, hle, h1, h2⟩ := field_spec t ht
  unfold kScale rScale
  rw [hn, shl23, Ideal.ofBits_def, ofBits_T 254 0x7F000000#32 (by decide), ofBits_T 255 0x7F800000#32 (by decide)]
  rcases Nat.eq_zero_or_pos n with rfl | h0
  · have h2 : t < T 1 := by simpa using h2
    rw [kExp_zero, cmp_olt_pos (h2.trans_le (T_mono (by omega) (by omega))), ValueIdx.select_one, rExp_low t h2,
      ofBits_T 127 _ (by decide), T_normal 127 (by omega) (by omega)]
    rw [← EReal.coe_zero, exp2_int 0 0 (by simp)]; norm_num
  rw [kExp_pos n h0 hle]
  rcases Nat.lt_or_ge n 254 with h3 | h3
  · have h2 : t < T (n + 1) := h2.resolve_right (by omega)
    rw [cmp_olt_pos (h2.trans_le (T_mono (by omega) (by omega))), ValueIdx.select_one, rExp_mid n h0 (by omega) t h1 h2,
      ofBits_T (n + 1) _ (by congr 1; apply BitVec.eq_of_toNat_eq; simp; omega), T_normal (n + 1) (by omega) (by omega)]
    rw [exp2_int ((n : ℤ) - 126) _ (by push_cast; ring)]
    refine congrArg (fun k : ℤ => (((2 : ℝ) ^ k : ℝ) : EReal)) ?_
    push_cast; ring
  rw [cmp_olt_neg ((T_mono h3 hle).trans h1), ValueIdx.select_zero]
  rcases Nat.lt_or_ge n 255 with h4 | h4
  · obtain rfl : n = 254 := by omega
    have h2 : t < T 255 := h2.resolve_right (by omega)
    rw [cmp_olt_pos h2, ValueIdx.select_one, ofBits_T 255 _ (by decide)]
  · obtain rfl : n = 255 := by omega
    rw [cmp_olt_neg h1, ValueIdx.select_zero]
    simp [Ideal.ofBits, Ideal.ieee]

/-- The reciprocal scales agree. -/
theorem inv_eq (t : EReal) (ht : 0 ≤ t) : kInv t = rInv t := by
  obtain ⟨n, hn, hle, h1, h2⟩ := field_spec t ht
  unfold kInv rInv
  rw [hn, shl23, Ideal.ofBits_def, ofBits_T 253 0x7E800000#32 (by decide), ofBits_T 254 0x7F000000#32 (by decide),
    ofBits_T 255 0x7F800000#32 (by decide), Ideal.ofBits_zero_f32]
  rcases Nat.eq_zero_or_pos n with rfl | h0
  · have h2 : t < T 1 := by simpa using h2
    rw [kExp_zero, cmp_olt_pos (h2.trans_le (T_mono (by omega) (by omega))), ValueIdx.select_one, rExp_low t h2,
      ofBits_T 127 _ (by decide), T_normal 127 (by omega) (by omega)]
    rw [sub_zero, ← EReal.coe_zero, exp2_int 0 0 (by simp)]; norm_num
  rw [kExp_pos n h0 hle]
  rcases Nat.lt_or_ge n 253 with h3 | h3
  · have h2 : t < T (n + 1) := h2.resolve_right (by omega)
    rw [cmp_olt_pos (h2.trans_le (T_mono (by omega) (by omega))), ValueIdx.select_one, rExp_mid n h0 (by omega) t h1 h2,
      ofBits_T (253 - n) _ (by congr 1; apply BitVec.eq_of_toNat_eq; simp; omega), T_normal (253 - n) (by omega) (by omega)]
    rw [zero_sub, ← EReal.coe_neg, neg_sub, exp2_int (126 - (n : ℤ)) _ (by push_cast; ring)]
    refine congrArg (fun k : ℤ => (((2 : ℝ) ^ k : ℝ) : EReal)) ?_
    rw [Nat.cast_sub (by omega)]; push_cast; ring
  rw [cmp_olt_neg ((T_mono h3 hle).trans h1), ValueIdx.select_zero]
  rcases Nat.lt_or_ge n 254 with h4 | h4
  · obtain rfl : n = 253 := by omega
    have h2 : t < T 254 := h2.resolve_right (by omega)
    rw [cmp_olt_pos h2, ValueIdx.select_one, ofBits_T 0 _ (by decide), T_zero]
  rw [cmp_olt_neg ((T_mono h4 hle).trans h1), ValueIdx.select_zero]
  rcases Nat.lt_or_ge n 255 with h5 | h5
  · obtain rfl : n = 254 := by omega
    have h2 : t < T 255 := h2.resolve_right (by omega)
    rw [cmp_olt_pos h2, ValueIdx.select_one]
    congr 1
  · obtain rfl : n = 255 := by omega
    rw [cmp_olt_neg h1, ValueIdx.select_zero]
    congr 1

end Cert.Expo

end
-- ==== Proof.Quant.lean ====
/-
  The quantiser of one slab of the accumulator, read at an index: a column's scale is the kernel's scale of its maximum over
  448, and a code is the entry times the reciprocal scale, clipped.
-/
module

public import proofs.«01_k».proof.Proof.Gen.KernelIdeal.Skeleton
public import proofs.«01_k».proof.Proof.Expo
public import Idealize.ShloMosaic.Lib.Pointwise

@[expose] public section
noncomputable section

namespace Cert.Quant
open Idealize.ShloMosaic

/-- The largest magnitude of a column. -/
def colMax (f : Fin 160 → EReal) : EReal :=
  (Finset.univ : Finset (Fin 160)).fold max (Ideal.ofBits .f32 0xFF800000#32) (fun x => max (f x) (-f x))

/-- The largest magnitude of a column over 448. -/
def tOf (f : Fin 160 → EReal) : EReal := colMax f * Ideal.ofBits .f32 0x3B124925#32

/-- An entry times a reciprocal scale, clipped to the codes' range. -/
def clip (y : EReal) : EReal := min (Ideal.ofBits .f32 0x43E00000#32) (max (Ideal.ofBits .f32 0xC3E00000#32) y)

theorem tOf_nonneg (f : Fin 160 → EReal) : 0 ≤ tOf f := by
  have h0 : (0 : EReal) ≤ colMax f := by
    unfold colMax
    refine (Finset.le_fold_max 0).2 (.inr ⟨0, Finset.mem_univ _, ?_⟩)
    rcases le_total 0 (f 0) with h | h
    · exact le_max_of_le_left h
    · exact le_max_of_le_right (EReal.neg_nonneg.2 h)
  have hc : (0 : EReal) ≤ Ideal.ofBits .f32 0x3B124925#32 := by
    have : Ideal.ofBits .f32 0x3B124925#32 = (((0x924925 : ℝ) * (2 : ℝ) ^ (-32 : ℤ) : ℝ) : EReal) := by
      simp [Ideal.ofBits, Ideal.ieee]
    rw [this]
    exact_mod_cast by positivity
  exact mul_nonneg h0 hc

end Cert.Quant

namespace Cert.KernelIdeal.Val
open Cert.KernelIdeal Cert.KernelIdeal.Gen Cert.Quant Cert.Expo Idealize.ShloMosaic

theorem pay6_apply (L : Vec Ideal S1x160x256 .f32) (d : Fin 256) :
    k0_pay6 L (ix2 0 d) = tOf (fun x => L (ix3 0 x d)) := by
  pointwise [k0_pay6, k0_pay5, tOf, colMax]
  rfl

theorem pay10_apply (L : Vec Ideal S1x160x256 .f32) (d : Fin 256) :
    k0_pay10 (k0_pay6 L) (k0_pay7 L) (k0_pay8 L) k0_pay9 (ix2 0 d) = field (k0_pay6 L (ix2 0 d)) := by
  rfl

/-- A column's scale. -/
theorem pay3_apply (L : Vec Ideal S1x160x256 .f32) (d : Fin 256) :
    k0_pay3 (F := Ideal) (k0_pay10 (k0_pay6 L) (k0_pay7 L) (k0_pay8 L) k0_pay9) (k0_pay11 (k0_pay6 L) (k0_pay7 L) (k0_pay8 L) k0_pay9) k0_pay12 (ix2 0 d)
      = kScale (tOf (fun x => L (ix3 0 x d))) := by
  have h : k0_pay3 (F := Ideal) (k0_pay10 (k0_pay6 L) (k0_pay7 L) (k0_pay8 L) k0_pay9) (k0_pay11 (k0_pay6 L) (k0_pay7 L) (k0_pay8 L) k0_pay9) k0_pay12 (ix2 0 d)
      = FloatOps.ofBits .f32 (IntOp.shli .vector (kExp (k0_pay10 (k0_pay6 L) (k0_pay7 L) (k0_pay8 L) k0_pay9 (ix2 0 d)) + 127#32) 23#32) := rfl
  rw [h, pay10_apply, pay6_apply]
  rfl

/-- A code. -/
theorem pay4_apply (L : Vec Ideal S1x160x256 .f32) (x : Fin 160) (d : Fin 256) :
    k0_pay4 (k0_pay5 L) (k0_pay10 (k0_pay6 L) (k0_pay7 L) (k0_pay8 L) k0_pay9) (k0_pay11 (k0_pay6 L) (k0_pay7 L) (k0_pay8 L) k0_pay9) k0_pay12 (ix3 0 x d)
      = clip (L (ix3 0 x d) * kInv (tOf (fun x => L (ix3 0 x d)))) := by
  have h : FloatOps.ofBits (F := Ideal) .f32 (IntOp.shli .vector (127#32 - kExp (k0_pay10 (k0_pay6 L) (k0_pay7 L) (k0_pay8 L) k0_pay9 (ix2 0 d))) 23#32)
      = kInv (tOf (fun x => L (ix3 0 x d))) := by
    rw [pay10_apply, pay6_apply]
    rfl
  rw [← h]
  generalize k0_pay6 L = A
  pointwise [k0_pay4, k0_pay2, k0_pay11, k0_pay12, k0_pay5, clip, kExp]
  rfl

end Cert.KernelIdeal.Val
end
-- ==== Proof.Loop2.lean ====
module

public import proofs.«01_k».proof.Proof.Block
public import proofs.«01_k».proof.Proof.Quant

@[expose] public section
noncomputable section
namespace Cert.KernelIdeal.Val
open Cert.KernelIdeal Cert.KernelIdeal.Gen Cert.Rows Cert.Quant Cert.Expo Idealize.ShloMosaic Idealize.ShloMosaic.TcCoe Idealize.SL.Sem

section
variable (c : Dev nD) (i : grid0.Coords) (arg1 : Memref sig .tc .vmem S26x40x2048 .i32) (harg1 : arg1.IsWhole) (arg2 : Memref sig .tc .vmem S26x2048 .i32) (harg2 : arg2.IsWhole) (arg3 : Memref sig .tc .vmem S40x2048 .i32) (harg3 : arg3.IsWhole) (arg4 : Memref sig .tc .vmem S1x2048 .f32) (harg4 : arg4.IsWhole) (arg5 : Memref sig .tc .vmem S2048x256 .fp8e5m2) (harg5 : arg5.IsWhole) (arg6 : Memref sig .tc .vmem S1x2048 .f32) (harg6 : arg6.IsWhole) (arg7 : Memref sig .tc .vmem S27x160x256 .f32) (harg7 : arg7.IsWhole) (arg8 : Memref sig .tc .vmem S27x160x256 .fp8e4m3) (harg8 : arg8.IsWhole) (arg9 : Memref sig .tc .vmem S27x256 .f32) (harg9 : arg9.IsWhole) (arg10 : Memref sig .tc .vmem S27x2048 .f32) (harg10 : arg10.IsWhole)

/-- One trip of the quantiser's loop stores one slab of codes and one row of scales. -/
theorem trip2_eq (𝒱 : Variants) (bd : Option 𝒱.V) (h2 : k0_cond2 i = 1#1) (X7 : BufTy.Contents (Elt Ideal) arg7.view.ty) (k : Fin k0_t2_loop.trips) :
    tripL_k0_t2 (F := Ideal) 𝒱 c bd i arg1 harg1 arg2 harg2 arg3 harg3 arg4 harg4 arg5 harg5 arg6 harg6 arg7 harg7 arg8 harg8 arg9 harg9 arg10 harg10 h2 X7 k
      = ([⟨Rect.unit (s := S27x160x256) (k0_off4 k) S1x160x256.size (k0_off4_inb i k h2),
            k0_pay4 (k0_pay5 (View.readAt (Elt Ideal) arg7.view (Rect.unit (s := S27x160x256) (k0_off4 k) S1x160x256.size (k0_off4_inb i k h2)).toLoadRect X7)) (k0_pay10 (k0_pay6 (View.readAt (Elt Ideal) arg7.view (Rect.unit (s := S27x160x256) (k0_off4 k) S1x160x256.size (k0_off4_inb i k h2)).toLoadRect X7)) (k0_pay7 (View.readAt (Elt Ideal) arg7.view (Rect.unit (s := S27x160x256) (k0_off4 k) S1x160x256.size (k0_off4_inb i k h2)).toLoadRect X7)) (k0_pay8 (View.readAt (Elt Ideal) arg7.view (Rect.unit (s := S27x160x256) (k0_off4 k) S1x160x256.size (k0_off4_inb i k h2)).toLoadRect X7)) k0_pay9) (k0_pay11 (k0_pay6 (View.readAt (Elt Ideal) arg7.view (Rect.unit (s := S27x160x256) (k0_off4 k) S1x160x256.size (k0_off4_inb i k h2)).toLoadRect X7)) (k0_pay7 (View.readAt (Elt Ideal) arg7.view (Rect.unit (s := S27x160x256) (k0_off4 k) S1x160x256.size (k0_off4_inb i k h2)).toLoadRect X7)) (k0_pay8 (View.readAt (Elt Ideal) arg7.view (Rect.unit (s := S27x160x256) (k0_off4 k) S1x160x256.size (k0_off4_inb i k h2)).toLoadRect X7)) k0_pay9) k0_pay12⟩],
         [⟨Rect.unit (s := S27x256) (k0_off5 k) S1x256.size (k0_off5_inb i k h2), k0_pay3 (F := Ideal) (k0_pay10 (k0_pay6 (View.readAt (Elt Ideal) arg7.view (Rect.unit (s := S27x160x256) (k0_off4 k) S1x160x256.size (k0_off4_inb i k h2)).toLoadRect X7)) (k0_pay7 (View.readAt (Elt Ideal) arg7.view (Rect.unit (s := S27x160x256) (k0_off4 k) S1x160x256.size (k0_off4_inb i k h2)).toLoadRect X7)) (k0_pay8 (View.readAt (Elt Ideal) arg7.view (Rect.unit (s := S27x160x256) (k0_off4 k) S1x160x256.size (k0_off4_inb i k h2)).toLoadRect X7)) k0_pay9) (k0_pay11 (k0_pay6 (View.readAt (Elt Ideal) arg7.view (Rect.unit (s := S27x160x256) (k0_off4 k) S1x160x256.size (k0_off4_inb i k h2)).toLoadRect X7)) (k0_pay7 (View.readAt (Elt Ideal) arg7.view (Rect.unit (s := S27x160x256) (k0_off4 k) S1x160x256.size (k0_off4_inb i k h2)).toLoadRect X7)) (k0_pay8 (View.readAt (Elt Ideal) arg7.view (Rect.unit (s := S27x160x256) (k0_off4 k) S1x160x256.size (k0_off4_inb i k h2)).toLoadRect X7)) k0_pay9) k0_pay12⟩]) := by
  unfold tripL_k0_t2 trip_k0_t2
  rfl

/-- After `n` trips the first `n` slabs of codes are the quantised slabs of the accumulator, and the first `n` rows of scales their scales. -/
theorem loop2_read (𝒱 : Variants) (bd : Option 𝒱.V) (h2 : k0_cond2 i = 1#1) (X7 : BufTy.Contents (Elt Ideal) arg7.view.ty)
    {κ8 κ9 : Kind} {sp8 sp9 : Space} (V8 : View sig κ8 sp8 S27x160x256 .fp8e4m3) (V9 : View sig κ9 sp9 S27x256 .f32) (f8 : V8.ty.Contents (Elt Ideal)) (f9 : V9.ty.Contents (Elt Ideal))
    (n : ℕ) (hn : n ≤ 27) (r : Fin 27) (hr : r.val < n) (x : Fin 160) (d : Fin 256) :
    V8.read (Elt Ideal) (V8.writes (Elt Ideal) f8 (pb_k0_t2 (F := Ideal) 𝒱 c bd i arg1 harg1 arg2 harg2 arg3 harg3 arg4 harg4 arg5 harg5 arg6 harg6 arg7 harg7 arg8 harg8 arg9 harg9 arg10 harg10 h2 X7 n).1) (ix3 r x d)
        = clip (arg7.view.read (Elt Ideal) X7 (ix3 r x d) * kInv (tOf (fun x => arg7.view.read (Elt Ideal) X7 (ix3 r x d))))
    ∧ V9.read (Elt Ideal) (V9.writes (Elt Ideal) f9 (pb_k0_t2 (F := Ideal) 𝒱 c bd i arg1 harg1 arg2 harg2 arg3 harg3 arg4 harg4 arg5 harg5 arg6 harg6 arg7 harg7 arg8 harg8 arg9 harg9 arg10 harg10 h2 X7 n).2) (ix2 r d)
        = kScale (tOf (fun x => arg7.view.read (Elt Ideal) X7 (ix3 r x d))) := by
  induction n with
  | zero => exact absurd hr (by omega)
  | succ n ih =>
    have ht : n < k0_t2_loop.trips := by
      have : k0_t2_loop.trips = 27 := by decide
      omega
    have hs := pb_k0_t2_succ (F := Ideal) 𝒱 c bd i arg1 harg1 arg2 harg2 arg3 harg3 arg4 harg4 arg5 harg5 arg6 harg6 arg7 harg7 arg8 harg8 arg9 harg9 arg10 harg10 h2 X7 ⟨n, ht⟩
    rw [trip2_eq] at hs
    have h4 := k0_off4_eq ⟨n, ht⟩
    have h5 := k0_off5_eq ⟨n, ht⟩
    rw [hs]
    dsimp only
    rw [List.singleton_append, List.singleton_append]
    by_cases hrn : r.val = n
    · rw [write3_same (off := k0_off4 ⟨n, ht⟩) V8 f8 _ r (by rw [h4, hrn]), write2_same (off := k0_off5 ⟨n, ht⟩) V9 f9 _ r (by rw [h5, hrn])]
      rw [pay4_apply, pay3_apply]
      have e : ∀ x : Fin 160, (View.readAt (Elt Ideal) arg7.view (Rect.unit (s := S27x160x256) (k0_off4 ⟨n, ht⟩) S1x160x256.size (k0_off4_inb i ⟨n, ht⟩ h2)).toLoadRect X7) (ix3 0 x d) = arg7.view.read (Elt Ideal) X7 (ix3 r x d) :=
        fun x => readAt3 arg7.view X7 _ r (by rw [h4, hrn]) x d
      simp only [e]
      exact ⟨trivial, trivial⟩
    · rw [write3_other (off := k0_off4 ⟨n, ht⟩) V8 f8 _ n h4 _ _ r hrn, write2_other (off := k0_off5 ⟨n, ht⟩) V9 f9 _ n h5 _ _ r hrn]
      exact ih (by omega) (by omega)

variable (x0 : Vec Ideal S26x40x2048 .i32) (x1 : Vec Ideal S26x2048 .i32) (x2 : Vec Ideal S40x2048 .i32) (x3 : Vec Ideal S1x2048 .f32) (x4 : Vec Ideal S2048x256 .fp8e5m2) (x5 : Vec Ideal S1x2048 .f32) (xo6 : Vec Ideal S27x160x256 .f32)

theorem runC7_eq (hc0 : ¬cond0_0 i) (hc1 : cond0_1 i) : ∃ h2 : k0_cond2 i = 1#1,
    (kernelRun0_C (F := Ideal) c i arg1 harg1 arg2 harg2 arg3 harg3 arg4 harg4 arg5 harg5 arg6 harg6 arg7 harg7 arg8 harg8 arg9 harg9 arg10 harg10 hc0 hc1 x0 x1 x2 x3 x4 x5 xo6).2.1
      = (pb_k0_t2 (F := Ideal) Variants.none c none i arg1 harg1 arg2 harg2 arg3 harg3 arg4 harg4 arg5 harg5 arg6 harg6 arg7 harg7 arg8 harg8 arg9 harg9 arg10 harg10 h2 (arg7.view.writes (Elt Ideal) (harg7.unread xo6) (runL c i arg1 harg1 arg2 harg2 arg3 harg3 arg4 harg4 arg5 harg5 arg6 harg6 arg7 harg7 arg8 harg8 arg9 harg9 arg10 harg10 x0 x1 x2 x3 x4 x5 (harg7.unread xo6))) k0_t2_loop.trips).1
    ∧ (kernelRun0_C (F := Ideal) c i arg1 harg1 arg2 harg2 arg3 harg3 arg4 harg4 arg5 harg5 arg6 harg6 arg7 harg7 arg8 harg8 arg9 harg9 arg10 harg10 hc0 hc1 x0 x1 x2 x3 x4 x5 xo6).2.2.1
      = (pb_k0_t2 (F := Ideal) Variants.none c none i arg1 harg1 arg2 harg2 arg3 harg3 arg4 harg4 arg5 harg5 arg6 harg6 arg7 harg7 arg8 harg8 arg9 harg9 arg10 harg10 h2 (arg7.view.writes (Elt Ideal) (harg7.unread xo6) (runL c i arg1 harg1 arg2 harg2 arg3 harg3 arg4 harg4 arg5 harg5 arg6 harg6 arg7 harg7 arg8 harg8 arg9 harg9 arg10 harg10 x0 x1 x2 x3 x4 x5 (harg7.unread xo6))) k0_t2_loop.trips).2 := by
  refine ⟨hc1, ?_, ?_⟩
  · unfold kernelRun0_C
    rfl
  · unfold kernelRun0_C
    rfl

/-- The codes and the scales the last grid point writes, from what the accumulator then holds. -/
theorem out_C78 (hc0 : ¬cond0_0 i) (hc1 : cond0_1 i) (r : Fin 27) (x : Fin 160) (d : Fin 256) :
    out0_C_7 (F := Ideal) c i arg1 harg1 arg2 harg2 arg3 harg3 arg4 harg4 arg5 harg5 arg6 harg6 arg7 harg7 arg8 harg8 arg9 harg9 arg10 harg10 hc0 hc1 x0 x1 x2 x3 x4 x5 xo6 (ix3 r x d)
        = clip (out0_C_6 (F := Ideal) c i arg1 harg1 arg2 harg2 arg3 harg3 arg4 harg4 arg5 harg5 arg6 harg6 arg7 harg7 arg8 harg8 arg9 harg9 arg10 harg10 hc0 hc1 x0 x1 x2 x3 x4 x5 xo6 (ix3 r x d)
            * kInv (tOf (fun x => out0_C_6 (F := Ideal) c i arg1 harg1 arg2 harg2 arg3 harg3 arg4 harg4 arg5 harg5 arg6 harg6 arg7 harg7 arg8 harg8 arg9 harg9 arg10 harg10 hc0 hc1 x0 x1 x2 x3 x4 x5 xo6 (ix3 r x d))))
    ∧ out0_C_8 (F := Ideal) c i arg1 harg1 arg2 harg2 arg3 harg3 arg4 harg4 arg5 harg5 arg6 harg6 arg7 harg7 arg8 harg8 arg9 harg9 arg10 harg10 hc0 hc1 x0 x1 x2 x3 x4 x5 xo6 (ix2 r d)
        = kScale (tOf (fun x => out0_C_6 (F := Ideal) c i arg1 harg1 arg2 harg2 arg3 harg3 arg4 harg4 arg5 harg5 arg6 harg6 arg7 harg7 arg8 harg8 arg9 harg9 arg10 harg10 hc0 hc1 x0 x1 x2 x3 x4 x5 xo6 (ix3 r x d))) := by
  obtain ⟨h2, e7, e8⟩ := runC7_eq c i arg1 harg1 arg2 harg2 arg3 harg3 arg4 harg4 arg5 harg5 arg6 harg6 arg7 harg7 arg8 harg8 arg9 harg9 arg10 harg10 x0 x1 x2 x3 x4 x5 xo6 hc0 hc1
  have htr : k0_t2_loop.trips = 27 := by decide
  have h6 : out0_C_6 (F := Ideal) c i arg1 harg1 arg2 harg2 arg3 harg3 arg4 harg4 arg5 harg5 arg6 harg6 arg7 harg7 arg8 harg8 arg9 harg9 arg10 harg10 hc0 hc1 x0 x1 x2 x3 x4 x5 xo6
      = arg7.view.read (Elt Ideal) (arg7.view.writes (Elt Ideal) (harg7.unread xo6) (runL c i arg1 harg1 arg2 harg2 arg3 harg3 arg4 harg4 arg5 harg5 arg6 harg6 arg7 harg7 arg8 harg8 arg9 harg9 arg10 harg10 x0 x1 x2 x3 x4 x5 (harg7.unread xo6))) := by
    unfold out0_C_6
    rw [runC_eq]
  have h7 : out0_C_7 (F := Ideal) c i arg1 harg1 arg2 harg2 arg3 harg3 arg4 harg4 arg5 harg5 arg6 harg6 arg7 harg7 arg8 harg8 arg9 harg9 arg10 harg10 hc0 hc1 x0 x1 x2 x3 x4 x5 xo6 = VO0_7.read (Elt Ideal) (VO0_7.writes (Elt Ideal) VO0_7.junk (pb_k0_t2 (F := Ideal) Variants.none c none i arg1 harg1 arg2 harg2 arg3 harg3 arg4 harg4 arg5 harg5 arg6 harg6 arg7 harg7 arg8 harg8 arg9 harg9 arg10 harg10 h2 (arg7.view.writes (Elt Ideal) (harg7.unread xo6) (runL c i arg1 harg1 arg2 harg2 arg3 harg3 arg4 harg4 arg5 harg5 arg6 harg6 arg7 harg7 arg8 harg8 arg9 harg9 arg10 harg10 x0 x1 x2 x3 x4 x5 (harg7.unread xo6))) k0_t2_loop.trips).1) := by
    unfold out0_C_7
    exact congrArg (fun L => VO0_7.read (Elt Ideal) (VO0_7.writes (Elt Ideal) VO0_7.junk L)) e7
  have h8 : out0_C_8 (F := Ideal) c i arg1 harg1 arg2 harg2 arg3 harg3 arg4 harg4 arg5 harg5 arg6 harg6 arg7 harg7 arg8 harg8 arg9 harg9 arg10 harg10 hc0 hc1 x0 x1 x2 x3 x4 x5 xo6 = VO0_8.read (Elt Ideal) (VO0_8.writes (Elt Ideal) VO0_8.junk (pb_k0_t2 (F := Ideal) Variants.none c none i arg1 harg1 arg2 harg2 arg3 harg3 arg4 harg4 arg5 harg5 arg6 harg6 arg7 harg7 arg8 harg8 arg9 harg9 arg10 harg10 h2 (arg7.view.writes (Elt Ideal) (harg7.unread xo6) (runL c i arg1 harg1 arg2 harg2 arg3 harg3 arg4 harg4 arg5 harg5 arg6 harg6 arg7 harg7 arg8 harg8 arg9 harg9 arg10 harg10 x0 x1 x2 x3 x4 x5 (harg7.unread xo6))) k0_t2_loop.trips).2) := by
    unfold out0_C_8
    exact congrArg (fun L => VO0_8.read (Elt Ideal) (VO0_8.writes (Elt Ideal) VO0_8.junk L)) e8
  rw [h7, h8, h6]
  exact loop2_read c i arg1 harg1 arg2 harg2 arg3 harg3 arg4 harg4 arg5 harg5 arg6 harg6 arg7 harg7 arg8 harg8 arg9 harg9 arg10 harg10 Variants.none none h2 _ VO0_7 VO0_8 _ _ k0_t2_loop.trips (by omega) r (by omega) x d

end

end Cert.KernelIdeal.Val
end
-- ==== Proof.Spec.lean ====
/-
  What both programs compute, from the six arguments: the weight gradient as one sum over all pairs, a column's scale and the
  codes. Offset 13 is the centre and reads `x` itself; the other offsets read the gathered codes and scales.
-/
module

public import proofs.«01_k».proof.Proof.Bytes
public import proofs.«01_k».proof.Proof.Quant

@[expose] public section
noncomputable section

namespace Cert.Spec
open Idealize.ShloMosaic Cert.Bytes Cert.Quant Cert.Expo

/-- The gathered offset whose product slab `r` of the gradient receives, `r` other than 13. -/
def slot (r : Fin 27) : ℕ := if r.val < 13 then r.val else r.val - 1

theorem slot_lt (r : Fin 27) : slot r < 26 := by unfold slot; split <;> omega

/-- The gathered offset of slab `r`. -/
abbrev slotF (r : Fin 27) : Fin 26 := ⟨slot r, slot_lt r⟩

/-- A row of the byte table lies in word row `x / 4`. -/
abbrev wordRow (x : Fin 160) : Fin 40 := ⟨x.val / 4, by omega⟩

section
variable (a0 : (⟨3, ![26, 40, 98304]⟩ : Shape).Idx → BitVec 32) (a1 : (⟨2, ![26, 98304]⟩ : Shape).Idx → BitVec 32)
  (a2 : (⟨2, ![40, 98304]⟩ : Shape).Idx → BitVec 32) (a3 : (⟨1, ![98304]⟩ : Shape).Idx → EReal)
  (a4 : (⟨2, ![98304, 256]⟩ : Shape).Idx → EReal) (a5 : (⟨1, ![98304]⟩ : Shape).Idx → EReal)

/-- The word of pair `n` at offset `r` and word row `w`. -/
def word (r : Fin 27) (w : Fin 40) (n : Fin 98304) : BitVec 32 :=
  if r.val = 13 then a2 (ix2 w n) else a0 (ix3 (slotF r) w n)

/-- The scale of pair `n` at offset `r`. -/
def sx (r : Fin 27) (n : Fin 98304) : EReal :=
  if r.val = 13 then a3 (ix1 n) else Ideal.ofBits .f32 (a1 (ix2 (slotF r) n))

/-- Pair `n`'s product at offset `r`, input channel `x`, output channel `d`. -/
def term (r : Fin 27) (x : Fin 160) (d : Fin 256) (n : Fin 98304) : EReal :=
  code (word a0 a2 r (wordRow x) n) (x.val % 4) * (sx a1 a3 r n * a5 (ix1 n)) * a4 (ix2 n d)

/-- The weight gradient. -/
def dW (r : Fin 27) (x : Fin 160) (d : Fin 256) : EReal := ∑ n : Fin 98304, term a0 a1 a2 a3 a4 a5 r x d n

/-- A column's scale. -/
def scale (r : Fin 27) (d : Fin 256) : EReal := kScale (tOf fun x => dW a0 a1 a2 a3 a4 a5 r x d)

/-- A code. -/
def codeOf (r : Fin 27) (x : Fin 160) (d : Fin 256) : EReal :=
  clip (dW a0 a1 a2 a3 a4 a5 r x d * kInv (tOf fun x => dW a0 a1 a2 a3 a4 a5 r x d))

/-- Column `p` of block `t` among all pairs. -/
abbrev col (t : Fin 48) (p : Fin 2048) : Fin 98304 := ⟨t.val * 2048 + p.val, by omega⟩

/-- The products of block `t`'s pairs. -/
def blockSum (r : Fin 27) (x : Fin 160) (d : Fin 256) (t : Fin 48) : EReal :=
  ∑ p : Fin 2048, term a0 a1 a2 a3 a4 a5 r x d (col t p)

/-- All pairs are the 48 blocks' pairs. -/
theorem dW_eq (r : Fin 27) (x : Fin 160) (d : Fin 256) :
    dW a0 a1 a2 a3 a4 a5 r x d = ∑ t : Fin 48, blockSum a0 a1 a2 a3 a4 a5 r x d t := by
  unfold dW blockSum
  rw [← Finset.sum_product' (f := fun t p => term a0 a1 a2 a3 a4 a5 r x d (col t p)), Finset.univ_product_univ]
  refine (Fintype.sum_equiv (finProdFinEquiv (m := 48) (n := 2048)) _ _ fun q => ?_).symm
  refine congrArg (term a0 a1 a2 a3 a4 a5 r x d) (Fin.ext ?_)
  show q.1.val * 2048 + q.2.val = q.2.val + 2048 * q.1.val
  omega

end
end Cert.Spec
end
-- ==== Proof.Blocks.lean ====
/-
  What the kernel's windows read: block `t` of each argument is the argument's columns (rows, of the output gradients) from
  `2048 t`.
-/
module

public import proofs.«01_k».proof.Proof.Gen.KernelIdeal.Value
public import proofs.«01_k».proof.Proof.Spec

@[expose] public section
noncomputable section

namespace Cert.KernelIdeal.Val
open Cert.KernelIdeal Cert.KernelIdeal.Gen Cert.Spec Idealize.ShloMosaic Idealize.ShloMosaic.TcCoe Idealize.SL.Sem

variable (m : (ℓ : Loc nD τ sig) → Buf (Elt Ideal) ℓ)

theorem coords_val : ∀ t : Fin grid0.N, (grid0.coords t 0).val = t.val := by decide

/-- A grid point as a block's number. -/
abbrev pt (t : Fin cfg0.N) : Fin 48 := ⟨t.val, lt_of_lt_of_eq t.isLt (show cfg0.N = 48 from N_0)⟩

theorem arg0N (t : Fin cfg0.N) : (BitVec.ofNat 32 (grid0.coords t 0).val).toNat = t.val := by
  have h := coords_val t
  have ht : t.val < 48 := lt_of_lt_of_eq t.isLt (show cfg0.N = 48 from N_0)
  rw [h, BitVec.toNat_ofNat]
  omega

theorem V_main_v0 (c : Dev nD) : V m c main_v0 = broadcastInDim S1x98304 ![1] bcast_S98304_S1x98304_1 (m ((c : Thread nD τ).loc main_arg3)) := by
  show StableHlo.after hostOps0 (fun b => m (c, b)) (Proc.devRef .tc main_v0) = _
  rw [hostOps0, StableHlo.after_cons, StableHlo.after_cons, StableHlo.after_nil]
  rw [StableHlo.unary_result_ne _ _ _ _ _ _ (by decide), StableHlo.unary_result]

theorem V_main_v1 (c : Dev nD) : V m c main_v1 = broadcastInDim S1x98304 ![1] bcast_S98304_S1x98304_1 (m ((c : Thread nD τ).loc main_arg5)) := by
  show StableHlo.after hostOps0 (fun b => m (c, b)) (Proc.devRef .tc main_v1) = _
  rw [hostOps0, StableHlo.after_cons, StableHlo.after_cons, StableHlo.after_nil]
  rw [StableHlo.unary_result, StableHlo.unary_result_ne _ _ _ _ _ _ (by decide)]

theorem iblk0 (c : Dev nD) (t : Fin cfg0.N) (j : Fin 26) (w : Fin 40) (p : Fin 2048) :
    (iblk m c 0 t : Vec Ideal S26x40x2048 .i32) (ix3 j w p) = m ((c : Thread nD τ).loc main_arg0) (ix3 j w (col (pt t) p)) := by
  unfold iblk
  rw [View.read_apply]
  refine (congrFun (V_main_arg0 m c) _).trans (congrArg (m ((c : Thread nD τ).loc main_arg0)) (funext fun a => Fin.ext ?_))
  match a with
  | ⟨0, _⟩ => show 0 * 26 + 1 * j.val = j.val; omega
  | ⟨1, _⟩ => show 0 * 40 + 1 * w.val = w.val; omega
  | ⟨2, _⟩ => show (BitVec.ofNat 32 (grid0.coords t 0).val).toNat * 2048 + 1 * p.val = t.val * 2048 + p.val; rw [arg0N]; omega

theorem iblk1 (c : Dev nD) (t : Fin cfg0.N) (j : Fin 26) (p : Fin 2048) :
    (iblk m c 1 t : Vec Ideal S26x2048 .i32) (ix2 j p) = m ((c : Thread nD τ).loc main_arg1) (ix2 j (col (pt t) p)) := by
  unfold iblk
  rw [View.read_apply]
  refine (congrFun (V_main_arg1 m c) _).trans (congrArg (m ((c : Thread nD τ).loc main_arg1)) (funext fun a => Fin.ext ?_))
  match a with
  | ⟨0, _⟩ => show 0 * 26 + 1 * j.val = j.val; omega
  | ⟨1, _⟩ => show (BitVec.ofNat 32 (grid0.coords t 0).val).toNat * 2048 + 1 * p.val = t.val * 2048 + p.val; rw [arg0N]; omega

theorem iblk2 (c : Dev nD) (t : Fin cfg0.N) (j : Fin 40) (p : Fin 2048) :
    (iblk m c 2 t : Vec Ideal S40x2048 .i32) (ix2 j p) = m ((c : Thread nD τ).loc main_arg2) (ix2 j (col (pt t) p)) := by
  unfold iblk
  rw [View.read_apply]
  refine (congrFun (V_main_arg2 m c) _).trans (congrArg (m ((c : Thread nD τ).loc main_arg2)) (funext fun a => Fin.ext ?_))
  match a with
  | ⟨0, _⟩ => show 0 * 40 + 1 * j.val = j.val; omega
  | ⟨1, _⟩ => show (BitVec.ofNat 32 (grid0.coords t 0).val).toNat * 2048 + 1 * p.val = t.val * 2048 + p.val; rw [arg0N]; omega

theorem iblk3 (c : Dev nD) (t : Fin cfg0.N) (p : Fin 2048) :
    (iblk m c 3 t : Vec Ideal S1x2048 .f32) (ix2 0 p) = m ((c : Thread nD τ).loc main_arg3) (ix1 (col (pt t) p)) := by
  unfold iblk
  rw [View.read_apply]
  refine (congrFun (V_main_v0 m c) _).trans (congrArg (m ((c : Thread nD τ).loc main_arg3)) (funext fun a => Fin.ext ?_))
  match a with
  | ⟨0, _⟩ => show (BitVec.ofNat 32 (grid0.coords t 0).val).toNat * 2048 + 1 * p.val = t.val * 2048 + p.val; rw [arg0N]; omega

theorem iblk4 (c : Dev nD) (t : Fin cfg0.N) (p : Fin 2048) (d : Fin 256) :
    (iblk m c 4 t : Vec Ideal S2048x256 .fp8e5m2) (ix2 p d) = m ((c : Thread nD τ).loc main_arg4) (ix2 (col (pt t) p) d) := by
  unfold iblk
  rw [View.read_apply]
  refine (congrFun (V_main_arg4 m c) _).trans (congrArg (m ((c : Thread nD τ).loc main_arg4)) (funext fun a => Fin.ext ?_))
  match a with
  | ⟨0, _⟩ => show (BitVec.ofNat 32 (grid0.coords t 0).val).toNat * 2048 + 1 * p.val = t.val * 2048 + p.val; rw [arg0N]; omega
  | ⟨1, _⟩ => show 0 * 256 + 1 * d.val = d.val; omega

theorem iblk5 (c : Dev nD) (t : Fin cfg0.N) (p : Fin 2048) :
    (iblk m c 5 t : Vec Ideal S1x2048 .f32) (ix2 0 p) = m ((c : Thread nD τ).loc main_arg5) (ix1 (col (pt t) p)) := by
  unfold iblk
  rw [View.read_apply]
  refine (congrFun (V_main_v1 m c) _).trans (congrArg (m ((c : Thread nD τ).loc main_arg5)) (funext fun a => Fin.ext ?_))
  match a with
  | ⟨0, _⟩ => show (BitVec.ofNat 32 (grid0.coords t 0).val).toNat * 2048 + 1 * p.val = t.val * 2048 + p.val; rw [arg0N]; omega

end Cert.KernelIdeal.Val
end
-- ==== Proof.Accum.lean ====
/-
  The kernel's three result arrays: the accumulator after point `t` is the sum of the first `t + 1` blocks' products, and the
  last point's write-back is the whole of each result.
-/
module

public import proofs.«01_k».proof.Proof.Loop2
public import proofs.«01_k».proof.Proof.Blocks

@[expose] public section
noncomputable section

namespace Cert.KernelIdeal.Val
open Cert.KernelIdeal Cert.KernelIdeal.Gen Idealize.ShloMosaic Idealize.ShloMosaic.TcCoe Idealize.SL.Sem
open Cert.Quant Cert.Expo Cert.Bytes

variable (m : (ℓ : Loc nD τ sig) → Buf (Elt Ideal) ℓ) (c : Dev nD)

/-- The six arguments. -/
abbrev A0 : (⟨3, ![26, 40, 98304]⟩ : Shape).Idx → BitVec 32 := m ((c : Thread nD τ).loc main_arg0)
abbrev A1 : (⟨2, ![26, 98304]⟩ : Shape).Idx → BitVec 32 := m ((c : Thread nD τ).loc main_arg1)
abbrev A2 : (⟨2, ![40, 98304]⟩ : Shape).Idx → BitVec 32 := m ((c : Thread nD τ).loc main_arg2)
abbrev A3 : (⟨1, ![98304]⟩ : Shape).Idx → EReal := m ((c : Thread nD τ).loc main_arg3)
abbrev A4 : (⟨2, ![98304, 256]⟩ : Shape).Idx → EReal := m ((c : Thread nD τ).loc main_arg4)
abbrev A5 : (⟨1, ![98304]⟩ : Shape).Idx → EReal := m ((c : Thread nD τ).loc main_arg5)

/-- What a point adds to the accumulator: its block's products. -/
theorem contrib_eq (t : Fin cfg0.N) (r : Fin 27) (x : Fin 160) (d : Fin 256) :
    contrib (iblk m c 0 t) (iblk m c 1 t) (iblk m c 2 t) (iblk m c 3 t) (iblk m c 4 t) (iblk m c 5 t) r x d
      = Spec.blockSum (A0 m c) (A1 m c) (A2 m c) (A3 m c) (A4 m c) (A5 m c) r x d (pt t) := by
  unfold contrib Spec.blockSum dotB
  by_cases h : r.val = 13
  · rw [dif_pos h]
    refine Finset.sum_congr rfl fun p _ => ?_
    unfold Spec.term Spec.word Spec.sx
    rw [if_pos h, if_pos h]
    beta_reduce
    rw [iblk2, iblk3, iblk4, iblk5]
  · rw [dif_neg h]
    refine Finset.sum_congr rfl fun p _ => ?_
    unfold Spec.term Spec.word Spec.sx
    rw [if_neg h, if_neg h]
    beta_reduce
    rw [iblk0, iblk1, iblk4, iblk5]
    rfl

/-- The same over every natural number: nothing beyond the grid. -/
def bs (r : Fin 27) (x : Fin 160) (d : Fin 256) (t : ℕ) : EReal :=
  if h : t < 48 then Spec.blockSum (A0 m c) (A1 m c) (A2 m c) (A3 m c) (A4 m c) (A5 m c) r x d ⟨t, h⟩ else 0

theorem contrib_bs (t : Fin cfg0.N) (r : Fin 27) (x : Fin 160) (d : Fin 256) :
    contrib (iblk m c 0 t) (iblk m c 1 t) (iblk m c 2 t) (iblk m c 3 t) (iblk m c 4 t) (iblk m c 5 t) r x d = bs m c r x d t.val := by
  rw [contrib_eq, bs, dif_pos]

attribute [local irreducible] out0_A_6 bs in
theorem first_eq (t : Fin cfg0.N) (h0 : t.val % 48 = 0) (h1 : ¬ t.val % 48 = 47) (r : Fin 27) (x : Fin 160) (d : Fin 256) :
    (outsAt0 m c t.val t.isLt).1 (ix3 r x d) = bs m c r x d t.val := by
  rw [outsAt0_A m c t h0 h1]
  have e := out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) ((hcond0_0 t).mpr h0) (fun h => h1 ((hcond0_1 t).mp h)) r x d
  dsimp only
  rw [e]
  exact contrib_bs m c t r x d

theorem next_eq (t : Fin cfg0.N) (h0 : ¬ t.val % 48 = 0) (r : Fin 27) (x : Fin 160) (d : Fin 256) :
    (outsAt0 m c t.val t.isLt).1 (ix3 r x d)
      = (outsAt0 m c (t.val - 1) (Nat.lt_of_le_of_lt (Nat.sub_le _ _) t.isLt)).1 (ix3 r x d) + bs m c r x d t.val := by
  by_cases h1 : t.val % 48 = 47
  · rw [outsAt0_C m c t h0 h1]
    refine (out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) _ _ _ r x d).trans ?_
    exact congrArg (_ + ·) (contrib_bs m c t r x d)
  · rw [outsAt0_B m c t h0 h1]
    refine (out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) _ _ _ r x d).trans ?_
    exact congrArg (_ + ·) (contrib_bs m c t r x d)

/-- The accumulator after point `n`. -/
theorem acc_eq (r : Fin 27) (x : Fin 160) (d : Fin 256) : ∀ (n : ℕ) (h : n < cfg0.N),
    (outsAt0 m c n h).1 (ix3 r x d) = ∑ t ∈ Finset.range (n + 1), bs m c r x d t
  | 0, h => by
    rw [Finset.sum_range_one]
    exact first_eq m c ⟨0, h⟩ rfl (by show ¬ 0 % 48 = 47; decide) r x d
  | n + 1, h => by
    have hn : n + 1 < 48 := lt_of_lt_of_eq h (show cfg0.N = 48 from N_0)
    have hm : (n + 1) % 48 = n + 1 := Nat.mod_eq_of_lt hn
    rw [Finset.sum_range_succ, ← acc_eq r x d n (Nat.lt_of_succ_lt h)]
    exact next_eq m c ⟨n + 1, h⟩ (by show ¬ (n + 1) % 48 = 0; omega) r x d

/-- The last point. -/
abbrev tL : Fin cfg0.N := ⟨47, by rw [show cfg0.N = 48 from N_0]; omega⟩

/-- The accumulator at the end is the weight gradient. -/
theorem last6 (r : Fin 27) (x : Fin 160) (d : Fin 256) :
    (outsAt0 m c tL.val tL.isLt).1 (ix3 r x d) = Spec.dW (A0 m c) (A1 m c) (A2 m c) (A3 m c) (A4 m c) (A5 m c) r x d := by
  rw [acc_eq, Spec.dW_eq]
  show ∑ t ∈ Finset.range 48, bs m c r x d t = _
  rw [Finset.sum_range]
  refine Finset.sum_congr rfl fun t _ => ?_
  rw [bs, dif_pos t.isLt]

theorem last78 (t : Fin cfg0.N) (h0 : ¬ t.val % 48 = 0) (h1 : t.val % 48 = 47) (r : Fin 27) (x : Fin 160) (d : Fin 256) :
    (outsAt0 m c t.val t.isLt).2.1 (ix3 r x d)
        = clip ((outsAt0 m c t.val t.isLt).1 (ix3 r x d) * kInv (tOf fun x => (outsAt0 m c t.val t.isLt).1 (ix3 r x d)))
    ∧ (outsAt0 m c t.val t.isLt).2.2 (ix2 r d) = kScale (tOf fun x => (outsAt0 m c t.val t.isLt).1 (ix3 r x d)) := by
  have e := outsAt0_C m c t h0 h1
  rw [e]
  exact out_C78 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) _ _ _ r x d

theorem last7 (r : Fin 27) (x : Fin 160) (d : Fin 256) :
    (outsAt0 m c tL.val tL.isLt).2.1 (ix3 r x d) = Spec.codeOf (A0 m c) (A1 m c) (A2 m c) (A3 m c) (A4 m c) (A5 m c) r x d := by
  refine (last78 m c tL (by decide) rfl r x d).1.trans ?_
  rw [Spec.codeOf, last6]
  refine congrArg (fun t => clip (_ * kInv (tOf t))) (funext fun x => ?_)
  exact last6 m c r x d

theorem last8 (r : Fin 27) (d : Fin 256) :
    (outsAt0 m c tL.val tL.isLt).2.2 (ix2 r d) = Spec.scale (A0 m c) (A1 m c) (A2 m c) (A3 m c) (A4 m c) (A5 m c) r d := by
  refine (last78 m c tL (by decide) rfl r 0 d).2.trans ?_
  rw [Spec.scale]
  refine congrArg (fun t => kScale (tOf t)) (funext fun x => ?_)
  exact last6 m c r x d

/-- Result 0 is the last point's block. -/
theorem arr6 : (dats m 0 c).arrAt 6 cfg0.N = (outsAt0 m c tL.val tL.isLt).1 := by
  have ho : ((cfg0.win 6).blk tL).view.read (Elt Ideal) ((dats m 0 c).arrAt 6 cfg0.N) = (dats m 0 c).flushed 6 tL := by
    rw [show cfg0.N = tL.val + 1 from rfl, (dats m 0 c).arrAt_succ 6 tL]
    rw [show (cfg0.win 6).flush tL = true from (flush0_6 tL).mpr rfl, if_pos rfl]
    exact View.read_write_univ _ _
  have hz : (fun a => (win0_6.index tL) a * main_v2_0.ty.shape.size a) = fun _ => 0 := funext fun a => by fin_cases a <;> decide
  have hr := fun f => Memref.read_access_unit_zero (Elt Ideal) main_v2_0 hz (fun a => by fin_cases a <;> decide) f
  refine ((hr _).symm.trans ho).trans ?_
  rw [Cert.KernelIdeal.Value.flushed6]
  rfl

/-- Result 1 is the last point's block. -/
theorem arr7 : (dats m 0 c).arrAt 7 cfg0.N = (outsAt0 m c tL.val tL.isLt).2.1 := by
  have ho : ((cfg0.win 7).blk tL).view.read (Elt Ideal) ((dats m 0 c).arrAt 7 cfg0.N) = (dats m 0 c).flushed 7 tL := by
    rw [show cfg0.N = tL.val + 1 from rfl, (dats m 0 c).arrAt_succ 7 tL]
    rw [show (cfg0.win 7).flush tL = true from (flush0_7 tL).mpr rfl, if_pos rfl]
    exact View.read_write_univ _ _
  have hz : (fun a => (win0_7.index tL) a * main_v2_1.ty.shape.size a) = fun _ => 0 := funext fun a => by fin_cases a <;> decide
  have hr := fun f => Memref.read_access_unit_zero (Elt Ideal) main_v2_1 hz (fun a => by fin_cases a <;> decide) f
  refine ((hr _).symm.trans ho).trans ?_
  rw [Cert.KernelIdeal.Value.flushed7]
  rfl

/-- Result 2 is the last point's block. -/
theorem arr8 : (dats m 0 c).arrAt 8 cfg0.N = (outsAt0 m c tL.val tL.isLt).2.2 := by
  have ho : ((cfg0.win 8).blk tL).view.read (Elt Ideal) ((dats m 0 c).arrAt 8 cfg0.N) = (dats m 0 c).flushed 8 tL := by
    rw [show cfg0.N = tL.val + 1 from rfl, (dats m 0 c).arrAt_succ 8 tL]
    rw [show (cfg0.win 8).flush tL = true from (flush0_8 tL).mpr rfl, if_pos rfl]
    exact View.read_write_univ _ _
  have hz : (fun a => (win0_8.index tL) a * main_v2_2.ty.shape.size a) = fun _ => 0 := funext fun a => by fin_cases a <;> decide
  have hr := fun f => Memref.read_access_unit_zero (Elt Ideal) main_v2_2 hz (fun a => by fin_cases a <;> decide) f
  refine ((hr _).symm.trans ho).trans ?_
  rw [Cert.KernelIdeal.Value.flushed8]
  rfl

end Cert.KernelIdeal.Val
end
-- ==== Proof.RefRun.lean ====
/-
  The reference's run: its result arrays are its one point's blocks, and its blocks are the arguments.
-/
module

public import proofs.«01_k».proof.Proof.Gen.ReferenceIdeal.Frame
public import Idealize.ShloMosaic.Lib.Pipeline.Value

@[expose] public section
noncomputable section

namespace Cert.ReferenceIdeal.Run
open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem post6 (r : PUnit × MemSt nD τ sig (Elt F)) (h : Pipeline.FramePost cfgs (dats m) 0 (V m) r) (c : Dev nD) :
    r.2.mem ((c : Thread nD τ).loc main_v2_0) = (dats m 0 c).arrAt 6 cfg0.N :=
  (h c).1 6

theorem post7 (r : PUnit × MemSt nD τ sig (Elt F)) (h : Pipeline.FramePost cfgs (dats m) 0 (V m) r) (c : Dev nD) :
    r.2.mem ((c : Thread nD τ).loc main_v2_1) = (dats m 0 c).arrAt 7 cfg0.N :=
  (h c).1 7

theorem post8 (r : PUnit × MemSt nD τ sig (Elt F)) (h : Pipeline.FramePost cfgs (dats m) 0 (V m) r) (c : Dev nD) :
    r.2.mem ((c : Thread nD τ).loc main_v2_2) = (dats m 0 c).arrAt 8 cfg0.N :=
  (h c).1 8

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The run, with each result array named and the arguments unchanged. -/
theorem run_blocks : θ_run defs (onTc (τ := τ) (main (F := F))) ⟨m, fun _ => 0, ρ⟩ fun r => ∀ c : Dev nD,
      r.2.mem ((c : Thread nD τ).loc main_v2_0) = (dats m 0 c).arrAt 6 cfg0.N
      ∧ r.2.mem ((c : Thread nD τ).loc main_v2_1) = (dats m 0 c).arrAt 7 cfg0.N
      ∧ r.2.mem ((c : Thread nD τ).loc main_v2_2) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post6 m r h c,
      post7 m r h c,
      post8 m r h c,
      kept_main_arg0 m r h c,
      kept_main_arg1 m r h c,
      kept_main_arg2 m r h c,
      kept_main_arg3 m r h c,
      kept_main_arg4 m r h c,
      kept_main_arg5 m r h c⟩)
    (run_main m ρ)

/-- The grid's one point. -/
abbrev t0 : Fin cfg0.N := ⟨0, by decide⟩

theorem arr6 (c : Dev nD) : (dats m 0 c).arrAt 6 cfg0.N = out0_6 (iblk m c 0 t0) (iblk m c 1 t0) (iblk m c 2 t0) (iblk m c 3 t0) (iblk m c 4 t0) (iblk m c 5 t0) := by
  have ho : ((cfg0.win 6).blk t0).view.read (Elt F) ((dats m 0 c).arrAt 6 cfg0.N) = (dats m 0 c).flushed 6 t0 := by
    rw [show cfg0.N = t0.val + 1 from rfl, (dats m 0 c).arrAt_succ 6 t0]
    rw [show (cfg0.win 6).flush t0 = true from by decide, if_pos rfl]
    exact View.read_write_univ _ _
  have hz : (fun a => (win0_6.index t0) a * main_v2_0.ty.shape.size a) = fun _ => 0 := funext fun a => by fin_cases a <;> decide
  have hr := fun f => Memref.read_access_unit_zero (Elt F) main_v2_0 hz (fun a => by fin_cases a <;> decide) f
  refine ((hr _).symm.trans ho).trans ?_
  show (cfg0.win 6).cut (grid0.coords t0) ((dats m 0 c).after 6 t0) = _
  rw [after0_6]
  rfl

theorem arr7 (c : Dev nD) : (dats m 0 c).arrAt 7 cfg0.N = out0_7 (iblk m c 0 t0) (iblk m c 1 t0) (iblk m c 2 t0) (iblk m c 3 t0) (iblk m c 4 t0) (iblk m c 5 t0) := by
  have ho : ((cfg0.win 7).blk t0).view.read (Elt F) ((dats m 0 c).arrAt 7 cfg0.N) = (dats m 0 c).flushed 7 t0 := by
    rw [show cfg0.N = t0.val + 1 from rfl, (dats m 0 c).arrAt_succ 7 t0]
    rw [show (cfg0.win 7).flush t0 = true from by decide, if_pos rfl]
    exact View.read_write_univ _ _
  have hz : (fun a => (win0_7.index t0) a * main_v2_1.ty.shape.size a) = fun _ => 0 := funext fun a => by fin_cases a <;> decide
  have hr := fun f => Memref.read_access_unit_zero (Elt F) main_v2_1 hz (fun a => by fin_cases a <;> decide) f
  refine ((hr _).symm.trans ho).trans ?_
  show (cfg0.win 7).cut (grid0.coords t0) ((dats m 0 c).after 7 t0) = _
  rw [after0_7]
  rfl

theorem arr8 (c : Dev nD) : (dats m 0 c).arrAt 8 cfg0.N = out0_8 (iblk m c 0 t0) (iblk m c 1 t0) (iblk m c 2 t0) (iblk m c 3 t0) (iblk m c 4 t0) (iblk m c 5 t0) := by
  have ho : ((cfg0.win 8).blk t0).view.read (Elt F) ((dats m 0 c).arrAt 8 cfg0.N) = (dats m 0 c).flushed 8 t0 := by
    rw [show cfg0.N = t0.val + 1 from rfl, (dats m 0 c).arrAt_succ 8 t0]
    rw [show (cfg0.win 8).flush t0 = true from by decide, if_pos rfl]
    exact View.read_write_univ _ _
  have hz : (fun a => (win0_8.index t0) a * main_v2_2.ty.shape.size a) = fun _ => 0 := funext fun a => by fin_cases a <;> decide
  have hr := fun f => Memref.read_access_unit_zero (Elt F) main_v2_2 hz (fun a => by fin_cases a <;> decide) f
  refine ((hr _).symm.trans ho).trans ?_
  show (cfg0.win 8).cut (grid0.coords t0) ((dats m 0 c).after 8 t0) = _
  rw [after0_8]
  rfl

theorem iblk0 (c : Dev nD) : iblk m c 0 t0 = m ((c : Thread nD τ).loc main_arg0) := by
  have hz : (fun a => (win0_0.index t0) a * main_arg0.ty.shape.size a) = fun _ => 0 := funext fun a => by fin_cases a <;> decide
  have hr := fun f => Memref.read_access_unit_zero (Elt F) main_arg0 hz (fun a => by fin_cases a <;> decide) f
  unfold iblk
  exact (hr _).trans (V_main_arg0 m c)

theorem iblk1 (c : Dev nD) : iblk m c 1 t0 = m ((c : Thread nD τ).loc main_arg1) := by
  have hz : (fun a => (win0_1.index t0) a * main_arg1.ty.shape.size a) = fun _ => 0 := funext fun a => by fin_cases a <;> decide
  have hr := fun f => Memref.read_access_unit_zero (Elt F) main_arg1 hz (fun a => by fin_cases a <;> decide) f
  unfold iblk
  exact (hr _).trans (V_main_arg1 m c)

theorem iblk2 (c : Dev nD) : iblk m c 2 t0 = m ((c : Thread nD τ).loc main_arg2) := by
  have hz : (fun a => (win0_2.index t0) a * main_arg2.ty.shape.size a) = fun _ => 0 := funext fun a => by fin_cases a <;> decide
  have hr := fun f => Memref.read_access_unit_zero (Elt F) main_arg2 hz (fun a => by fin_cases a <;> decide) f
  unfold iblk
  exact (hr _).trans (V_main_arg2 m c)

theorem iblk4 (c : Dev nD) : iblk m c 4 t0 = m ((c : Thread nD τ).loc main_arg4) := by
  have hz : (fun a => (win0_4.index t0) a * main_arg4.ty.shape.size a) = fun _ => 0 := funext fun a => by fin_cases a <;> decide
  have hr := fun f => Memref.read_access_unit_zero (Elt F) main_arg4 hz (fun a => by fin_cases a <;> decide) f
  unfold iblk
  exact (hr _).trans (V_main_arg4 m c)

theorem V_main_v0 (c : Dev nD) : V m c main_v0 = broadcastInDim S1x98304 ![1] bcast_S98304_S1x98304_1 (m ((c : Thread nD τ).loc main_arg3)) := by
  show StableHlo.after hostOps0 (fun b => m (c, b)) (Proc.devRef .tc main_v0) = _
  rw [hostOps0, StableHlo.after_cons, StableHlo.after_cons, StableHlo.after_nil]
  rw [StableHlo.unary_result_ne _ _ _ _ _ _ (by decide), StableHlo.unary_result]

theorem iblk3 (c : Dev nD) : iblk m c 3 t0 = broadcastInDim S1x98304 ![1] bcast_S98304_S1x98304_1 (m ((c : Thread nD τ).loc main_arg3)) := by
  have hz : (fun a => (win0_3.index t0) a * main_v0.ty.shape.size a) = fun _ => 0 := funext fun a => by fin_cases a <;> decide
  have hr := fun f => Memref.read_access_unit_zero (Elt F) main_v0 hz (fun a => by fin_cases a <;> decide) f
  unfold iblk
  exact (hr _).trans (V_main_v0 m c)

theorem V_main_v1 (c : Dev nD) : V m c main_v1 = broadcastInDim S1x98304 ![1] bcast_S98304_S1x98304_1 (m ((c : Thread nD τ).loc main_arg5)) := by
  show StableHlo.after hostOps0 (fun b => m (c, b)) (Proc.devRef .tc main_v1) = _
  rw [hostOps0, StableHlo.after_cons, StableHlo.after_cons, StableHlo.after_nil]
  rw [StableHlo.unary_result, StableHlo.unary_result_ne _ _ _ _ _ _ (by decide)]

theorem iblk5 (c : Dev nD) : iblk m c 5 t0 = broadcastInDim S1x98304 ![1] bcast_S98304_S1x98304_1 (m ((c : Thread nD τ).loc main_arg5)) := by
  have hz : (fun a => (win0_5.index t0) a * main_v1.ty.shape.size a) = fun _ => 0 := funext fun a => by fin_cases a <;> decide
  have hr := fun f => Memref.read_access_unit_zero (Elt F) main_v1 hz (fun a => by fin_cases a <;> decide) f
  unfold iblk
  exact (hr _).trans (V_main_v1 m c)

end Cert.ReferenceIdeal.Run
end
-- ==== Proof.RefPieces.lean ====
/-
  The reference's steps at an index, one by one.
-/
module

public import proofs.«01_k».proof.Proof.RefRun
public import proofs.«01_k».proof.Proof.Spec

@[expose] public section
noncomputable section

namespace Cert.ReferenceIdeal.Run
open Cert.ReferenceIdeal Cert.ReferenceIdeal.Gen Idealize.ShloMosaic Cert.Bytes Cert.Quant Cert.Expo

/-- Row `x` of slab `r` among the stacked rows. -/
abbrev row (r : Fin 27) (x : Fin 160) : Fin 4320 := ⟨r.val * 160 + x.val, by omega⟩
/-- Word row `w` of slab `r` among the stacked word rows. -/
abbrev wrw (r : Fin 27) (w : Fin 40) : Fin 1080 := ⟨r.val * 40 + w.val, by omega⟩

/-- The product into zeros. -/
theorem mm_apply (A : FVec Ideal S4320x98304 .bf16) (B : FVec Ideal S98304x256 .bf16) (r : Fin 4320) (d : Fin 256) :
    matmul dot_S4320x98304_S98304x256_S4320x256_1_0_0_1_n_n none A B (constant S4320x256 .f32 0x00000000#32) (ix2 r d)
      = ∑ n : Fin 98304, A (ix2 r n) * B (ix2 n d) := by
  pointwise

/-- The product, slab by slab. -/
theorem out_apply (A : FVec Ideal S4320x256 .f32) (r : Fin 27) (x : Fin 160) (d : Fin 256) :
    shapeCast S27x160x256 A shapeCasts_S4320x256_S27x160x256 (ix3 r x d) = A (ix2 (row r x) d) := by
  pointwise

/-- Slabs stacked. -/
theorem st_apply (A : FVec Ideal S27x160x98304 .bf16) (r : Fin 27) (x : Fin 160) (n : Fin 98304) :
    shapeCast S4320x98304 A shapeCasts_S27x160x98304_S4320x98304 (ix2 (row r x) n) = A (ix3 r x n) := by
  pointwise
  refine congrArg₂ (fun a b => A (ix3 a b n)) (Fin.ext ?_) (Fin.ext ?_)
  · show (r.val * 160 + x.val) / 160 = r.val; omega
  · show (r.val * 160 + x.val) % 160 = x.val; omega

/-- Slabs from stacked rows. -/
theorem un_apply (A : FVec Ideal S4320x98304 .bf16) (r : Fin 27) (x : Fin 160) (n : Fin 98304) :
    shapeCast S27x160x98304 A shapeCasts_S4320x98304_S27x160x98304 (ix3 r x n) = A (ix2 (row r x) n) := by
  pointwise

/-- A scale over a slab's rows. -/
theorem bc_apply (A : FVec Ideal S27x98304 .bf16) (r : Fin 27) (x : Fin 160) (n : Fin 98304) :
    broadcastTo S27x160x98304 (shapeCast S27x1x98304 A shapeCasts_S27x98304_S27x1x98304) broadcasts_S27x1x98304_S27x160x98304 (ix3 r x n) = A (ix2 r n) := by
  pointwise

/-- A vector over all offsets. -/
theorem bd_apply (a : FVec Ideal S98304 .f32) (r : Fin 27) (n : Fin 98304) :
    broadcastTo S27x98304 (shapeCast S1x98304 (broadcastInDim S1x98304 ![1] bcast_S98304_S1x98304_1 a) shapeCasts_S1x98304_S1x98304) broadcasts_S1x98304_S27x98304 (ix2 r n) = a (ix1 n) := by
  pointwise

/-- Three word tables one after another. -/
theorem cat3_apply (P0 P2 : S13x40x98304.Idx → BitVec 32) (P1 : S1x40x98304.Idx → BitVec 32) (r : Fin 27) (w : Fin 40) (n : Fin 98304) :
    concatenate S27x40x98304 0 [⟨S13x40x98304, P0⟩, ⟨S1x40x98304, P1⟩, ⟨S13x40x98304, P2⟩]
      concatenates_S13x40x98304_S1x40x98304_S13x40x98304_S27x40x98304_d0 (ix3 r w n)
      = if h : r.val < 13 then P0 (ix3 ⟨r.val, h⟩ w n) else if h' : r.val - 13 < 1 then P1 (ix3 ⟨r.val - 13, h'⟩ w n)
        else P2 (ix3 ⟨r.val - 13 - 1, by omega⟩ w n) := by
  pointwise

/-- The concatenated words. -/
theorem w_apply (x0 : Vec Ideal S26x40x98304 .i32) (x2 : Vec Ideal S40x98304 .i32) (r : Fin 27) (w : Fin 40) (n : Fin 98304) :
    concatenate S27x40x98304 0 [⟨S13x40x98304, View.ld x0 r0_0⟩, ⟨S1x40x98304, shapeCast S1x40x98304 x2 shapeCasts_S40x98304_S1x40x98304⟩,
      ⟨S13x40x98304, View.ld x0 r0_2⟩] concatenates_S13x40x98304_S1x40x98304_S13x40x98304_S27x40x98304_d0 (ix3 r w n) = Spec.word x0 x2 r w n := by
  rw [cat3_apply]
  unfold Spec.word
  by_cases h0 : r.val < 13
  · rw [dif_pos h0, if_neg (by omega)]
    pointwise
    exact congrArg (fun j : Fin 26 => x0 (ix3 j w n)) (Fin.ext (show r.val = Spec.slot r by unfold Spec.slot; rw [if_pos h0]))
  · rw [dif_neg h0]
    by_cases h1 : r.val = 13
    · rw [dif_pos (by omega), if_pos h1]
      pointwise
    · rw [dif_neg (by omega), if_neg h1]
      pointwise
      exact congrArg (fun j : Fin 26 => x0 (ix3 j w n)) (Fin.ext (show 13 + (r.val - 13 - 1) = Spec.slot r by unfold Spec.slot; rw [if_neg h0]; omega))

/-- The stacked words. -/
theorem ws_apply (A : IVec S27x40x98304 32) (r : Fin 27) (w : Fin 40) (n : Fin 98304) :
    shapeCast S1080x98304 A shapeCasts_S27x40x98304_S1080x98304 (ix2 (wrw r w) n) = A (ix3 r w n) := by
  pointwise
  refine congrArg₂ (fun a b => A (ix3 a b n)) (Fin.ext ?_) (Fin.ext ?_)
  · show (r.val * 40 + w.val) / 40 = r.val; omega
  · show (r.val * 40 + w.val) % 40 = w.val; omega

/-- Three scale tables one after another. -/
theorem cat2_apply (P0 P2 : S13x98304.Idx → EReal) (P1 : S1x98304.Idx → EReal) (r : Fin 27) (n : Fin 98304) :
    concatenate S27x98304 0 [⟨S13x98304, P0⟩, ⟨S1x98304, P1⟩, ⟨S13x98304, P2⟩]
      concatenates_S13x98304_S1x98304_S13x98304_S27x98304_d0 (ix2 r n)
      = if h : r.val < 13 then P0 (ix2 ⟨r.val, h⟩ n) else if h' : r.val - 13 < 1 then P1 (ix2 ⟨r.val - 13, h'⟩ n)
        else P2 (ix2 ⟨r.val - 13 - 1, by omega⟩ n) := by
  pointwise

/-- The concatenated scales. -/
theorem s_apply (x1 : Vec Ideal S26x98304 .i32) (a3 : FVec Ideal S98304 .f32) (r : Fin 27) (n : Fin 98304) :
    concatenate S27x98304 0 [⟨S13x98304, extractStridedSlice S13x98304 ![0, 0] (bitcastToFloat (F := Ideal) .f32 x1) slices_S26x98304_o0_0_S13x98304⟩,
      ⟨S1x98304, shapeCast S1x98304 (broadcastInDim S1x98304 ![1] bcast_S98304_S1x98304_1 a3) shapeCasts_S1x98304_S1x98304⟩,
      ⟨S13x98304, extractStridedSlice S13x98304 ![13, 0] (bitcastToFloat (F := Ideal) .f32 x1) slices_S26x98304_o13_0_S13x98304⟩]
      concatenates_S13x98304_S1x98304_S13x98304_S27x98304_d0 (ix2 r n) = Spec.sx x1 a3 r n := by
  refine (cat2_apply _ _ _ r n).trans ?_
  unfold Spec.sx
  by_cases h0 : r.val < 13
  · rw [dif_pos h0, if_neg (by omega)]
    pointwise
    exact congrArg (fun j : Fin 26 => Ideal.ofBits .f32 (x1 (ix2 j n))) (Fin.ext (show r.val = Spec.slot r by unfold Spec.slot; rw [if_pos h0]))
  · rw [dif_neg h0]
    by_cases h1 : r.val = 13
    · rw [dif_pos (by omega), if_pos h1]
      pointwise
    · rw [dif_neg (by omega), if_neg h1]
      pointwise
      exact congrArg (fun j : Fin 26 => Ideal.ofBits .f32 (x1 (ix2 j n))) (Fin.ext (show 13 + (r.val - 13 - 1) = Spec.slot r by unfold Spec.slot; rw [if_neg h0]; omega))

/-- The stacked scaled codes, at stacked row `row r x` and pair `n`. -/
theorem xs_apply (C : FVec Ideal S4320x98304 .fp8e4m3) (S : FVec Ideal S27x98304 .f32) (D : FVec Ideal S27x98304 .f32) (r : Fin 27) (x : Fin 160) (n : Fin 98304) :
    shapeCast S4320x98304 (mulf (shapeCast S27x160x98304 (extf .bf16 C bitsLt_fp8e4m3_bf16) shapeCasts_S4320x98304_S27x160x98304)
      (broadcastTo S27x160x98304 (shapeCast S27x1x98304 (truncf .bf16 (mulf S D) bitsLt_bf16_f32) shapeCasts_S27x98304_S27x1x98304) broadcasts_S27x1x98304_S27x160x98304))
      shapeCasts_S27x160x98304_S4320x98304 (ix2 (row r x) n) = C (ix2 (row r x) n) * (S (ix2 r n) * D (ix2 r n)) := by
  rw [st_apply]
  refine congrArg₂ (fun a b : EReal => a * b) (un_apply _ r x n) (bc_apply _ r x n)

/-- A column's maximum. -/
theorem max_apply (g : FVec Ideal S27x160x256 .f32) (r : Fin 27) (d : Fin 256) :
    multiReduction .maximumf [1] S27x256 g 0xFF800000#32 reduces_S27x160x256_S27x256 (.inl rfl) rfl (ix2 r d)
      = (Finset.univ : Finset (Fin 160)).fold max (Ideal.ofBits .f32 0xFF800000#32) (fun x => g (ix3 r x d)) := by
  pointwise

theorem scaled_apply (a : FVec Ideal S27x256 .f32) (b : EReal) (j : S27x256.Idx) : mulf a (broadcast S27x256 b) j = a j * b := rfl

/-- The threshold of a table's columns. -/
theorem red_apply (g : FVec Ideal S27x160x256 .f32) (r : Fin 27) (d : Fin 256) :
    mulf (multiReduction .maximumf [1] S27x256 (absf g) 0xFF800000#32 reduces_S27x160x256_S27x256 (.inl rfl) rfl)
      (broadcast S27x256 (Scalar.ofBits (F := Ideal) .f32 0x3B124925#32)) (ix2 r d) = tOf fun x => g (ix3 r x d) := by
  refine (scaled_apply _ _ _).trans ?_
  rw [max_apply]
  rfl

/-- The reference's scale. -/
theorem pay7_apply (t : FVec Ideal S27x256 .f32) (r : Fin 27) (d : Fin 256) :
    k0_pay7 t (log t) k0_pay4 (ix2 r d) = rScale (t (ix2 r d)) := rfl

theorem cl_apply (g : FVec Ideal S27x160x256 .f32) (V : FVec Ideal S27x256 .f32) (r : Fin 27) (x : Fin 160) (d : Fin 256) :
    truncf .fp8e4m3 (minimumf (broadcast S27x160x256 (Scalar.ofBits (F := Ideal) .f32 0x43E00000#32)) (maximumf (broadcast S27x160x256 (Scalar.ofBits (F := Ideal) .f32 0xC3E00000#32))
      (mulf g (broadcastTo S27x160x256 (shapeCast S27x1x256 V shapeCasts_S27x256_S27x1x256) broadcasts_S27x1x256_S27x160x256)))) bitsLt_fp8e4m3_f32 (ix3 r x d)
      = clip (g (ix3 r x d) * V (ix2 r d)) := by
  pointwise [clip]

/-- The reference's codes. -/
theorem pay8_apply (g : FVec Ideal S27x160x256 .f32) (t : FVec Ideal S27x256 .f32) (r : Fin 27) (x : Fin 160) (d : Fin 256) :
    k0_pay8 g t (log t) k0_pay4 (ix3 r x d) = clip (g (ix3 r x d) * rInv (t (ix2 r d))) := by
  unfold k0_pay8
  rw [cl_apply]
  rfl

end Cert.ReferenceIdeal.Run
end
-- ==== Proof.RefDot.lean ====
/-
  The reference's weight gradient at an index.
-/
module

public import proofs.«01_k».proof.Proof.RefPieces
public import proofs.«01_k».proof.Proof.Spec

@[expose] public section
noncomputable section

namespace Cert.ReferenceIdeal.Run
open Cert.ReferenceIdeal Cert.ReferenceIdeal.Gen Idealize.ShloMosaic Cert.Bytes Cert.Quant Cert.Expo

/-- The weight gradient at an index. -/
theorem pay1_apply (x0 : Vec Ideal S26x40x98304 .i32) (x1 : Vec Ideal S26x98304 .i32) (x2 : Vec Ideal S40x98304 .i32)
    (a3 : Vec Ideal S98304 .f32) (x4 : Vec Ideal S98304x256 .fp8e5m2) (a5 : Vec Ideal S98304 .f32) (r : Fin 27) (x : Fin 160) (d : Fin 256) :
    k0_pay1 (View.ld x0 r0_0) x2 (View.ld x0 r0_2) x1 (broadcastInDim S1x98304 ![1] bcast_S98304_S1x98304_1 a3)
      (broadcastInDim S1x98304 ![1] bcast_S98304_S1x98304_1 a5) x4 (ix3 r x d) = Spec.dW x0 x1 x2 a3 x4 a5 r x d := by
  unfold k0_pay1
  dsimp only
  rw [out_apply, mm_apply]
  unfold Spec.dW
  refine Finset.sum_congr rfl fun n _ => ?_
  rw [xs_apply, codes_apply _ _ (row r x) n (wrw r (Spec.wordRow x)) (by show r.val * 40 + x.val / 4 = (r.val * 160 + x.val) / 4; omega),
    ws_apply, w_apply, s_apply, bd_apply]
  unfold Spec.term
  rw [show ((row r x).val % 4) = x.val % 4 from by show (r.val * 160 + x.val) % 4 = _; omega]
  rfl

/-- The threshold of the weight gradient's columns. -/
theorem pay2_apply (x0 : Vec Ideal S26x40x98304 .i32) (x1 : Vec Ideal S26x98304 .i32) (x2 : Vec Ideal S40x98304 .i32)
    (a3 : Vec Ideal S98304 .f32) (x4 : Vec Ideal S98304x256 .fp8e5m2) (a5 : Vec Ideal S98304 .f32) (r : Fin 27) (d : Fin 256) :
    k0_pay2 (View.ld x0 r0_0) x2 (View.ld x0 r0_2) x1 (broadcastInDim S1x98304 ![1] bcast_S98304_S1x98304_1 a3)
      (broadcastInDim S1x98304 ![1] bcast_S98304_S1x98304_1 a5) x4 (ix2 r d) = tOf fun x => Spec.dW x0 x1 x2 a3 x4 a5 r x d := by
  unfold k0_pay2
  refine (red_apply _ r d).trans (congrArg tOf (funext fun x => ?_))
  exact pay1_apply x0 x1 x2 a3 x4 a5 r x d

end Cert.ReferenceIdeal.Run
end
-- ==== Proof.RefFinal.lean ====
/-
  The reference's three result arrays: the gradient, the codes and the scales of the arguments.
-/
module

public import proofs.«01_k».proof.Proof.RefDot

@[expose] public section
noncomputable section

namespace Cert.ReferenceIdeal.Run
open Cert.ReferenceIdeal Cert.ReferenceIdeal.Gen Idealize.ShloMosaic Idealize.ShloMosaic.TcCoe Idealize.SL.Sem Cert.Bytes Cert.Quant Cert.Expo

variable (m : (ℓ : Loc nD τ sig) → Buf (Elt Ideal) ℓ) (c : Dev nD)

/-- The six arguments. -/
abbrev B0 : (⟨3, ![26, 40, 98304]⟩ : Shape).Idx → BitVec 32 := m ((c : Thread nD τ).loc main_arg0)
abbrev B1 : (⟨2, ![26, 98304]⟩ : Shape).Idx → BitVec 32 := m ((c : Thread nD τ).loc main_arg1)
abbrev B2 : (⟨2, ![40, 98304]⟩ : Shape).Idx → BitVec 32 := m ((c : Thread nD τ).loc main_arg2)
abbrev B3 : (⟨1, ![98304]⟩ : Shape).Idx → EReal := m ((c : Thread nD τ).loc main_arg3)
abbrev B4 : (⟨2, ![98304, 256]⟩ : Shape).Idx → EReal := m ((c : Thread nD τ).loc main_arg4)
abbrev B5 : (⟨1, ![98304]⟩ : Shape).Idx → EReal := m ((c : Thread nD τ).loc main_arg5)

theorem z2 : (![0, 0] : Fin 2 → Nat) = fun _ => 0 := funext fun a => by fin_cases a <;> rfl
theorem z3 : (![0, 0, 0] : Fin 3 → Nat) = fun _ => 0 := funext fun a => by fin_cases a <;> rfl

variable (x0 : Vec Ideal S26x40x98304 .i32) (x1 : Vec Ideal S26x98304 .i32) (x2 : Vec Ideal S40x98304 .i32)
  (x3 : Vec Ideal S1x98304 .f32) (x4 : Vec Ideal S98304x256 .fp8e5m2) (x5 : Vec Ideal S1x98304 .f32)

theorem out6_eq : out0_6 x0 x1 x2 x3 x4 x5 = k0_pay1 (View.ld x0 r0_0) x2 (View.ld x0 r0_2) x1 x3 x5 x4 := by
  unfold out0_6
  rw [View.canon_unit_zero z3, View.ld_unit_zero z2, View.ld_unit_zero z2, View.ld_unit_zero z2, View.ld_unit_zero z2, View.ld_unit_zero z2]

theorem pay9_eq : k0_pay9 x0 x1 x2 x3 x4 x5 = k0_pay2 (View.ld x0 r0_0) x2 (View.ld x0 r0_2) x1 x3 x5 x4 := by
  unfold k0_pay9
  rw [View.ld_unit_zero z2, View.ld_unit_zero z2, View.ld_unit_zero z2, View.ld_unit_zero z2, View.ld_unit_zero z2]

theorem pay10_eq : k0_pay10 x0 x1 x2 x3 x4 x5 = log (k0_pay9 x0 x1 x2 x3 x4 x5) := rfl

theorem pay11_eq : k0_pay11 x0 x1 x2 x3 x4 x5 = k0_pay4 := rfl

theorem out7_eq : out0_7 x0 x1 x2 x3 x4 x5
    = k0_pay8 (k0_pay1 (View.ld x0 r0_0) x2 (View.ld x0 r0_2) x1 x3 x5 x4) (k0_pay9 x0 x1 x2 x3 x4 x5) (log (k0_pay9 x0 x1 x2 x3 x4 x5)) k0_pay4 := by
  unfold out0_7
  rw [View.canon_unit_zero z3, View.ld_unit_zero z2, View.ld_unit_zero z2, View.ld_unit_zero z2, View.ld_unit_zero z2, View.ld_unit_zero z2,
    pay10_eq, pay11_eq]

theorem out8_eq : out0_8 x0 x1 x2 x3 x4 x5
    = k0_pay7 (k0_pay9 x0 x1 x2 x3 x4 x5) (log (k0_pay9 x0 x1 x2 x3 x4 x5)) k0_pay4 := by
  unfold out0_8
  rw [View.canon_unit_zero z2, pay10_eq, pay11_eq]

/-- The reference's gradient. -/
theorem ref6 (r : Fin 27) (x : Fin 160) (d : Fin 256) : (dats m 0 c).arrAt 6 cfg0.N (ix3 r x d) = Spec.dW (B0 m c) (B1 m c) (B2 m c) (B3 m c) (B4 m c) (B5 m c) r x d := by
  rw [arr6, out6_eq, iblk0, iblk1, iblk2, iblk3, iblk4, iblk5]
  exact pay1_apply _ _ _ _ _ _ r x d

/-- Its scales. -/
theorem ref8 (r : Fin 27) (d : Fin 256) : (dats m 0 c).arrAt 8 cfg0.N (ix2 r d) = rScale (tOf fun x => Spec.dW (B0 m c) (B1 m c) (B2 m c) (B3 m c) (B4 m c) (B5 m c) r x d) := by
  rw [arr8, out8_eq, pay9_eq, iblk0, iblk1, iblk2, iblk3, iblk4, iblk5]
  refine (pay7_apply _ r d).trans (congrArg rScale ?_)
  exact pay2_apply _ _ _ _ _ _ r d

/-- Its codes. -/
theorem ref7 (r : Fin 27) (x : Fin 160) (d : Fin 256) :
    (dats m 0 c).arrAt 7 cfg0.N (ix3 r x d) = clip (Spec.dW (B0 m c) (B1 m c) (B2 m c) (B3 m c) (B4 m c) (B5 m c) r x d * rInv (tOf fun x => Spec.dW (B0 m c) (B1 m c) (B2 m c) (B3 m c) (B4 m c) (B5 m c) r x d)) := by
  rw [arr7, out7_eq, pay9_eq, iblk0, iblk1, iblk2, iblk3, iblk4, iblk5]
  refine (pay8_apply _ _ r x d).trans (congrArg₂ (fun a b : EReal => clip (a * rInv b)) ?_ ?_)
  · exact pay1_apply _ _ _ _ _ _ r x d
  · exact pay2_apply _ _ _ _ _ _ r d

/-- The scales and codes, as the kernel states them. -/
theorem ref8' (r : Fin 27) (d : Fin 256) : (dats m 0 c).arrAt 8 cfg0.N (ix2 r d) = Spec.scale (B0 m c) (B1 m c) (B2 m c) (B3 m c) (B4 m c) (B5 m c) r d := by
  rw [ref8, Spec.scale, scale_eq _ (tOf_nonneg _)]

theorem ref7' (r : Fin 27) (x : Fin 160) (d : Fin 256) : (dats m 0 c).arrAt 7 cfg0.N (ix3 r x d) = Spec.codeOf (B0 m c) (B1 m c) (B2 m c) (B3 m c) (B4 m c) (B5 m c) r x d := by
  rw [ref7, Spec.codeOf, inv_eq _ (tOf_nonneg _)]

end Cert.ReferenceIdeal.Run
end
-- ==== Proof.Final.lean ====
/-
  The two programs' results are equal.
-/
module

public import proofs.«01_k».proof.Proof.Accum
public import proofs.«01_k».proof.Proof.RefFinal

@[expose] public section
noncomputable section

namespace Cert.Final
open Idealize.ShloMosaic Idealize.SL.Sem

theorem ix3_ex {a b c : ℕ} (j : (⟨3, ![a, b, c]⟩ : Shape).Idx) : ∃ r x d, j = ix3 r x d :=
  ⟨j 0, j 1, j 2, funext fun i => by match i with | ⟨0, _⟩ => rfl | ⟨1, _⟩ => rfl | ⟨2, _⟩ => rfl⟩

theorem ix2_ex {a b : ℕ} (j : (⟨2, ![a, b]⟩ : Shape).Idx) : ∃ r d, j = ix2 r d :=
  ⟨j 0, j 1, funext fun i => by match i with | ⟨0, _⟩ => rfl | ⟨1, _⟩ => rfl⟩

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two programs start from the same arguments. -/
abbrev Args : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)

/-- Result 0: the two runs' arrays agree. -/
theorem same6 (h : Args m m' c) :
    (Cert.ReferenceIdeal.Gen.dats m' 0 c).arrAt 6 Cert.ReferenceIdeal.cfg0.N = (Cert.KernelIdeal.Gen.dats m 0 c).arrAt 6 Cert.KernelIdeal.cfg0.N := by
  obtain ⟨h0, h1, h2, h3, h4, h5⟩ := h
  rw [Cert.KernelIdeal.Val.arr6]
  funext j
  obtain ⟨r, x, d, rfl⟩ : ∃ r x d, j = ix3 r x d := ix3_ex j
  refine (Cert.ReferenceIdeal.Run.ref6 m' c r x d).trans (Eq.trans ?_ (Cert.KernelIdeal.Val.last6 m c r x d).symm)
  unfold Cert.ReferenceIdeal.Run.B0 Cert.ReferenceIdeal.Run.B1 Cert.ReferenceIdeal.Run.B2 Cert.ReferenceIdeal.Run.B3 Cert.ReferenceIdeal.Run.B4 Cert.ReferenceIdeal.Run.B5
  rw [h0, h1, h2, h3, h4, h5]

/-- Result 1: the two runs' arrays agree. -/
theorem same7 (h : Args m m' c) :
    (Cert.ReferenceIdeal.Gen.dats m' 0 c).arrAt 7 Cert.ReferenceIdeal.cfg0.N = (Cert.KernelIdeal.Gen.dats m 0 c).arrAt 7 Cert.KernelIdeal.cfg0.N := by
  obtain ⟨h0, h1, h2, h3, h4, h5⟩ := h
  rw [Cert.KernelIdeal.Val.arr7]
  funext j
  obtain ⟨r, x, d, rfl⟩ : ∃ r x d, j = ix3 r x d := ix3_ex j
  refine (Cert.ReferenceIdeal.Run.ref7' m' c r x d).trans (Eq.trans ?_ (Cert.KernelIdeal.Val.last7 m c r x d).symm)
  unfold Cert.ReferenceIdeal.Run.B0 Cert.ReferenceIdeal.Run.B1 Cert.ReferenceIdeal.Run.B2 Cert.ReferenceIdeal.Run.B3 Cert.ReferenceIdeal.Run.B4 Cert.ReferenceIdeal.Run.B5
  rw [h0, h1, h2, h3, h4, h5]

/-- Result 2: the two runs' arrays agree. -/
theorem same8 (h : Args m m' c) :
    (Cert.ReferenceIdeal.Gen.dats m' 0 c).arrAt 8 Cert.ReferenceIdeal.cfg0.N = (Cert.KernelIdeal.Gen.dats m 0 c).arrAt 8 Cert.KernelIdeal.cfg0.N := by
  obtain ⟨h0, h1, h2, h3, h4, h5⟩ := h
  rw [Cert.KernelIdeal.Val.arr8]
  funext j
  obtain ⟨r, d, rfl⟩ : ∃ r d, j = ix2 r d := ix2_ex j
  refine (Cert.ReferenceIdeal.Run.ref8' m' c r d).trans (Eq.trans ?_ (Cert.KernelIdeal.Val.last8 m c r d).symm)
  unfold Cert.ReferenceIdeal.Run.B0 Cert.ReferenceIdeal.Run.B1 Cert.ReferenceIdeal.Run.B2 Cert.ReferenceIdeal.Run.B3 Cert.ReferenceIdeal.Run.B4 Cert.ReferenceIdeal.Run.B5
  rw [h0, h1, h2, h3, h4, h5]

end Cert.Final
end
-- ==== Proof.lean ====
/- The proof of the certificate's claims: the three frames, `preserves`, and the equality of the three results. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Final
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, by
  refine ⟨fun m ρ _ => ?_, fun m ρ _ => ?_, fun m ρ _ => ?_, trivial, fun m g m' g' _ h => ?_⟩
  · exact Cert.Kernel.Gen.frame m ρ
  · exact Cert.KernelIdeal.Gen.frame m ρ
  · exact Cert.ReferenceIdeal.Gen.frame m ρ
  · refine ⟨fun c => (Cert.KernelIdeal.Gen.dats m 0 c).arrAt 6 Cert.KernelIdeal.cfg0.N, fun c => (Cert.KernelIdeal.Gen.dats m 0 c).arrAt 7 Cert.KernelIdeal.cfg0.N,
      fun c => (Cert.KernelIdeal.Gen.dats m 0 c).arrAt 8 Cert.KernelIdeal.cfg0.N, Cert.KernelIdeal.Value.run_blocks m g, ?_⟩
    refine (θ_run Cert.ReferenceIdeal.defs _ _).mono (fun r hr c => ?_) (Cert.ReferenceIdeal.Run.run_blocks m' g')
    obtain ⟨e6, e7, e8, ha⟩ := hr c
    exact ⟨e6.trans (Cert.Final.same6 m m' c (h c)), e7.trans (Cert.Final.same7 m m' c (h c)), e8.trans (Cert.Final.same8 m m' c (h c)), ha⟩⟩

end Cert.Proof

end
